-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_chain_inputs [hPre_chain_inputs : Cert.Pre_chain_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_chain_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_chain_inputs [hPre_chain_inputs : Cert.Pre_chain_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chain_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_chain_inputs [hKernelIdeal : Cert.KernelIdeal.Facts] [hPre_chain_inputs : Cert.Pre_chain_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chain_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_chain_inputs [hReferenceIdeal : Cert.ReferenceIdeal.Facts] [hPre_chain_inputs : Cert.Pre_chain_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chain_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "l_eff" .f32 0x3DCCCCCD#32 ((10⁻¹ : ℝ) : EReal)

def algebraic_KernelIdeal_ReferenceIdeal_pre_chain_inputs [hKernelIdeal : Cert.KernelIdeal.Facts] [hReferenceIdeal : Cert.ReferenceIdeal.Facts] [hPre_chain_inputs : Cert.Pre_chain_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chain_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v406) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_chain_inputs : Cert.Pre_chain_inputs.Facts),
    quiescent_Kernel (hKernel := hKernel)
    ∧ quiescent_KernelIdeal (hKernelIdeal := hKernelIdeal)
    ∧ quiescent_KernelIdeal_pre_chain_inputs (hKernelIdeal := hKernelIdeal) (hPre_chain_inputs := hPre_chain_inputs)
    ∧ quiescent_ReferenceIdeal (hReferenceIdeal := hReferenceIdeal)
    ∧ quiescent_ReferenceIdeal_pre_chain_inputs (hReferenceIdeal := hReferenceIdeal) (hPre_chain_inputs := hPre_chain_inputs)
    ∧ preserves_Kernel_KernelIdeal
    ∧ algebraic_KernelIdeal_ReferenceIdeal_pre_chain_inputs (hKernelIdeal := hKernelIdeal) (hReferenceIdeal := hReferenceIdeal) (hPre_chain_inputs := hPre_chain_inputs)
-- ==== Pre_chain_inputs.lean ====
abbrev S_ : Shape := ⟨0, ![]⟩
abbrev S64x3072 : Shape := ⟨2, ![64, 3072]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S510x3 : Shape := ⟨2, ![510, 3]⟩
abbrev S1536x1536 : Shape := ⟨2, ![1536, 1536]⟩
abbrev S1536 : Shape := ⟨1, ![1536]⟩
abbrev S1536x1 : Shape := ⟨2, ![1536, 1]⟩
abbrev S1x1536 : Shape := ⟨2, ![1, 1536]⟩
abbrev S1x1 : Shape := ⟨2, ![1, 1]⟩
abbrev S64x1536 : Shape := ⟨2, ![64, 1536]⟩

class Facts : Prop where
  bcast_S1536_S1536x1_0 : S1536.BroadcastsInDim S1536x1 (![0] : Fin 1 → Fin S1536x1.rank)
  bcast_S1536_S1x1536_1 : S1536.BroadcastsInDim S1x1536 (![1] : Fin 1 → Fin S1x1536.rank)
  bcast_S1536x1_S1536x1536_0_1 : S1536x1.BroadcastsInDim S1536x1536 (![0, 1] : Fin 2 → Fin S1536x1536.rank)
  bcast_S1x1536_S1536x1536_0_1 : S1x1536.BroadcastsInDim S1536x1536 (![0, 1] : Fin 2 → Fin S1536x1536.rank)
  reducesTo_S510x3_S_d0_1 : S510x3.ReducesTo [0, 1] S_
  h_S_ : 0 < S_.numel
  reducesTo_S1536_S_d0 : S1536.ReducesTo [0] S_
  slices_S1536x1536_S1x1_0_0 : S1536x1536.Slices ![0, 0] S1x1
  shapeCasts_S1x1_S_ : S1x1.ShapeCasts S_
  bcast_S_S1536x1536 : S_.BroadcastsInDim S1536x1536 (![] : Fin 0 → Fin S1536x1536.rank)
  reducesTo_S1536x1536_S_d0_1 : S1536x1536.ReducesTo [0, 1] S_
  slices_S64x3072_S64x1536_0_0 : S64x3072.Slices ![0, 0] S64x1536
  bcast_S_S64x1536 : S_.BroadcastsInDim S64x1536 (![] : Fin 0 → Fin S64x1536.rank)
  reducesTo_S64x1536_S_d0_1 : S64x1536.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn_where {F : FTy → Type} [FloatOps F] (arg0 : IVec S1536x1536 1) (arg1 : FVec F S_ .f32) (arg2 : FVec F S_ .f32) : FVec F S1536x1536 .f32 :=
  let v0 : FVec F S_ .f32 := id arg2
  let v1 : FVec F S1536x1536 .f32 := broadcastInDim S1536x1536 ![] bcast_S_S1536x1536 arg1
  let v2 : FVec F S1536x1536 .f32 := broadcastInDim S1536x1536 ![] bcast_S_S1536x1536 v0
  let v3 : FVec F S1536x1536 .f32 := select arg0 v1 v2
  v3

def fn_part3 {F : FTy → Type} [FloatOps F] (main_arg6 : FVec F S64x1 .f32) (main_v50 : IVec S_ 1) (main_v54 : IVec S_ 1) : IVec S_ 1 :=
  let main_v55 : IVec S_ 1 := andi main_v50 main_v54
  let main_v56 : FVec F S64x1 .f32 := Host.absf main_arg6
  let main_cst_15 : FVec F S_ .f32 := constant S_ .f32 0x7F800000#32
  let main_v57 : FVec F S64x1 .f32 := broadcastInDim S64x1 ![] bcast_S_S64x1 main_cst_15
  let main_v58 : IVec S64x1 1 := cmpf .olt main_v56 main_v57
  let main_c_16 : IVec S_ 1 := constantI S_ 1 1#1
  let main_v59 : IVec S_ 1 := (fun x v => Host.reduce IntOp.andi x v reducesTo_S64x1_S_d0_1 h_S_) main_v58 main_c_16
  let main_v60 : IVec S_ 1 := andi main_v55 main_v59
  main_v60

def fn_part2 {F : FTy → Type} [FloatOps F] (main_arg3 : FVec F S64 .f32) (main_arg4 : FVec F S64x64 .f32) (main_arg5 : FVec F S64 .f32) (main_arg6 : FVec F S64x1 .f32) (main_v35 : IVec S_ 1) (main_v36 : FVec F S2x64 .f32) (main_v37 : FVec F S2x64 .f32) : IVec S_ 1 :=
  let main_v38 : IVec S2x64 1 := cmpf .olt main_v36 main_v37
  let main_c_8 : IVec S_ 1 := constantI S_ 1 1#1
  let main_v39 : IVec S_ 1 := (fun x v => Host.reduce IntOp.andi x v reducesTo_S2x64_S_d0_1 h_S_) main_v38 main_c_8
  let main_v40 : IVec S_ 1 := andi main_v35 main_v39
  let main_v41 : FVec F S64 .f32 := Host.absf main_arg3
  let main_cst_9 : FVec F S_ .f32 := constant S_ .f32 0x7F800000#32
  let main_v42 : FVec F S64 .f32 := broadcastInDim S64 ![] bcast_S_S64 main_cst_9
  let main_v43 : IVec S64 1 := cmpf .olt main_v41 main_v42
  let main_c_10 : IVec S_ 1 := constantI S_ 1 1#1
  let main_v44 : IVec S_ 1 := (fun x v => Host.reduce IntOp.andi x v reducesTo_S64_S_d0 h_S_) main_v43 main_c_10
  let main_v45 : IVec S_ 1 := andi main_v40 main_v44
  let main_v46 : FVec F S64x64 .f32 := Host.absf main_arg4
  let main_cst_11 : FVec F S_ .f32 := constant S_ .f32 0x7F800000#32
  let main_v47 : FVec F S64x64 .f32 := broadcastInDim S64x64 ![] bcast_S_S64x64 main_cst_11
  let main_v48 : IVec S64x64 1 := cmpf .olt main_v46 main_v47
  let main_c_12 : IVec S_ 1 := constantI S_ 1 1#1
  let main_v49 : IVec S_ 1 := (fun x v => Host.reduce IntOp.andi x v reducesTo_S64x64_S_d0_1 h_S_) main_v48 main_c_12
  let main_v50 : IVec S_ 1 := andi main_v45 main_v49
  let main_v51 : FVec F S64 .f32 := Host.absf main_arg5
  let main_cst_13 : FVec F S_ .f32 := constant S_ .f32 0x7F800000#32
  let main_v52 : FVec F S64 .f32 := broadcastInDim S64 ![] bcast_S_S64 main_cst_13
  let main_v53 : IVec S64 1 := cmpf .olt main_v51 main_v52
  let main_c_14 : IVec S_ 1 := constantI S_ 1 1#1
  let main_v54 : IVec S_ 1 := (fun x v => Host.reduce IntOp.andi x v reducesTo_S64_S_d0 h_S_) main_v53 main_c_14
  fn_part3 (F := F) main_arg6 main_v50 main_v54

def fn_part1 {F : FTy → Type} [FloatOps F] (main_arg1 : FVec F S64x3072 .f32) (main_arg2 : FVec F S2x64 .f32) (main_arg3 : FVec F S64 .f32) (main_arg4 : FVec F S64x64 .f32) (main_arg5 : FVec F S64 .f32) (main_arg6 : FVec F S64x1 .f32) (main_arg9 : FVec F S1536x1536 .f32) (main_arg10 : FVec F S1536x1536 .f32) (main_v5 : IVec S1536x1536 1) (main_v19 : IVec S_ 1) : IVec S_ 1 :=
  let main_v20 : FVec F S1x1 .f32 := (extractStridedSlice S1x1 ![0, 0] · slices_S1536x1536_S1x1_0_0) main_arg9
  let main_v21 : FVec F S_ .f32 := shapeCast S_ main_v20 shapeCasts_S1x1_S_
  let main_cst_2 : FVec F S_ .f32 := constant S_ .f32 0x00000000#32
  let main_v22 : IVec S_ 1 := cmpf .une main_v21 main_cst_2
  let main_v23 : IVec S_ 1 := andi main_v19 main_v22
  let main_v24 : FVec F S1x1 .f32 := (extractStridedSlice S1x1 ![0, 0] · slices_S1536x1536_S1x1_0_0) main_arg10
  let main_v25 : FVec F S_ .f32 := shapeCast S_ main_v24 shapeCasts_S1x1_S_
  let main_cst_3 : FVec F S_ .f32 := constant S_ .f32 0x00000000#32
  let main_v26 : FVec F S1536x1536 .f32 := fn_where (F := F) main_v5 main_v25 main_cst_3
  let main_v27 : IVec S1536x1536 1 := cmpf .oeq main_arg10 main_v26
  let main_c_4 : IVec S_ 1 := constantI S_ 1 1#1
  let main_v28 : IVec S_ 1 := (fun x v => Host.reduce IntOp.andi x v reducesTo_S1536x1536_S_d0_1 h_S_) main_v27 main_c_4
  let main_v29 : IVec S_ 1 := andi main_v23 main_v28
  let main_v30 : FVec F S64x1536 .f32 := (extractStridedSlice S64x1536 ![0, 0] · slices_S64x3072_S64x1536_0_0) main_arg1
  let main_v31 : FVec F S64x1536 .f32 := Host.absf main_v30
  let main_cst_5 : FVec F S_ .f32 := constant S_ .f32 0x7F800000#32
  let main_v32 : FVec F S64x1536 .f32 := broadcastInDim S64x1536 ![] bcast_S_S64x1536 main_cst_5
  let main_v33 : IVec S64x1536 1 := cmpf .olt main_v31 main_v32
  let main_c_6 : IVec S_ 1 := constantI S_ 1 1#1
  let main_v34 : IVec S_ 1 := (fun x v => Host.reduce IntOp.andi x v reducesTo_S64x1536_S_d0_1 h_S_) main_v33 main_c_6
  let main_v35 : IVec S_ 1 := andi main_v29 main_v34
  let main_v36 : FVec F S2x64 .f32 := Host.absf main_arg2
  let main_cst_7 : FVec F S_ .f32 := constant S_ .f32 0x7F800000#32
  let main_v37 : FVec F S2x64 .f32 := broadcastInDim S2x64 ![] bcast_S_S2x64 main_cst_7
  fn_part2 (F := F) main_arg3 main_arg4 main_arg5 main_arg6 main_v35 main_v36 main_v37

def fn {F : FTy → Type} [FloatOps F] (main_arg0 : FVec F S_ .f32) (main_arg1 : FVec F S64x3072 .f32) (main_arg2 : FVec F S2x64 .f32) (main_arg3 : FVec F S64 .f32) (main_arg4 : FVec F S64x64 .f32) (main_arg5 : FVec F S64 .f32) (main_arg6 : FVec F S64x1 .f32) (main_arg7 : FVec F S1 .f32) (main_arg8 : IVec S510x3 32) (main_arg9 : FVec F S1536x1536 .f32) (main_arg10 : FVec F S1536x1536 .f32) (main_arg11 : FVec F S1536 .f32) (main_arg12 : IVec S1536 32) : IVec S_ 1 :=
  let main_v0 : IVec S1536 32 := iotaInDim S1536 32 0
  let main_v1 : IVec S1536x1 32 := broadcastInDim S1536x1 ![0] bcast_S1536_S1536x1_0 main_v0
  let main_v2 : IVec S1x1536 32 := broadcastInDim S1x1536 ![1] bcast_S1536_S1x1536_1 main_v0
  let main_v3 : IVec S1536x1536 32 := broadcastInDim S1536x1536 ![0, 1] bcast_S1536x1_S1536x1536_0_1 main_v1
  let main_v4 : IVec S1536x1536 32 := broadcastInDim S1536x1536 ![0, 1] bcast_S1x1536_S1536x1536_0_1 main_v2
  let main_v5 : IVec S1536x1536 1 := cmpi .eq main_v3 main_v4
  let main_v6 : IVec S510x3 32 := iotaInDim S510x3 32 0
  let main_v7 : IVec S510x3 32 := iotaInDim S510x3 32 1
  let main_v8 : IVec S510x3 32 := addi main_v6 main_v7
  let main_v9 : IVec S510x3 1 := cmpi .eq main_arg8 main_v8
  let main_c : IVec S_ 1 := constantI S_ 1 1#1
  let main_v10 : IVec S_ 1 := (fun x v => Host.reduce IntOp.andi x v reducesTo_S510x3_S_d0_1 h_S_) main_v9 main_c
  let main_v11 : IVec S1536 1 := cmpi .eq main_arg12 main_v0
  let main_c_0 : IVec S_ 1 := constantI S_ 1 1#1
  let main_v12 : IVec S_ 1 := (fun x v => Host.reduce IntOp.andi x v reducesTo_S1536_S_d0 h_S_) main_v11 main_c_0
  let main_v13 : IVec S_ 1 := andi main_v10 main_v12
  let main_v14 : FVec F S1x1 .f32 := (extractStridedSlice S1x1 ![0, 0] · slices_S1536x1536_S1x1_0_0) main_arg9
  let main_v15 : FVec F S_ .f32 := shapeCast S_ main_v14 shapeCasts_S1x1_S_
  let main_cst : FVec F S_ .f32 := constant S_ .f32 0x00000000#32
  let main_v16 : FVec F S1536x1536 .f32 := fn_where (F := F) main_v5 main_v15 main_cst
  let main_v17 : IVec S1536x1536 1 := cmpf .oeq main_arg9 main_v16
  let main_c_1 : IVec S_ 1 := constantI S_ 1 1#1
  let main_v18 : IVec S_ 1 := (fun x v => Host.reduce IntOp.andi x v reducesTo_S1536x1536_S_d0_1 h_S_) main_v17 main_c_1
  let main_v19 : IVec S_ 1 := andi main_v13 main_v18
  fn_part1 (F := F) main_arg1 main_arg2 main_arg3 main_arg4 main_arg5 main_arg6 main_arg9 main_arg10 main_v5 main_v19
-- ==== Kernel.lean ====
abbrev S_ : Shape := ⟨0, ![]⟩
abbrev S64x3072 : Shape := ⟨2, ![64, 3072]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S510x3 : Shape := ⟨2, ![510, 3]⟩
abbrev S1536x1536 : Shape := ⟨2, ![1536, 1536]⟩
abbrev S1536 : Shape := ⟨1, ![1536]⟩
abbrev S64x1536 : Shape := ⟨2, ![64, 1536]⟩
abbrev S64x512x3 : Shape := ⟨3, ![64, 512, 3]⟩
abbrev S512x3 : Shape := ⟨2, ![512, 3]⟩
abbrev S64x512x1 : Shape := ⟨3, ![64, 512, 1]⟩
abbrev S64x512 : Shape := ⟨2, ![64, 512]⟩
abbrev S8x4096 : Shape := ⟨2, ![8, 4096]⟩
abbrev S512x1 : Shape := ⟨2, ![512, 1]⟩
abbrev S512 : Shape := ⟨1, ![512]⟩
abbrev S1x512 : Shape := ⟨2, ![1, 512]⟩
abbrev S32768 : Shape := ⟨1, ![32768]⟩
abbrev S72x4096 : Shape := ⟨2, ![72, 4096]⟩
abbrev S1x64 : Shape := ⟨2, ![1, 64]⟩
abbrev S1x1 : Shape := ⟨2, ![1, 1]⟩
abbrev S64x136 : Shape := ⟨2, ![64, 136]⟩
abbrev S24x4096 : Shape := ⟨2, ![24, 4096]⟩
abbrev S64x2 : Shape := ⟨2, ![64, 2]⟩
abbrev S1x4096 : Shape := ⟨2, ![1, 4096]⟩
abbrev S2x4096 : Shape := ⟨2, ![2, 4096]⟩
abbrev S64x4096 : Shape := ⟨2, ![64, 4096]⟩

abbrev nBuf : Space → Nat
  | .hbm => 92
  | .vmem => 3
  | .smem => 0
  | _ => 0

abbrev bufTy : (tb : Table) → Fin (tcTables nBuf tb) → BufTy
  | .hbm, ⟨0, _⟩ => ⟨S_, .f32⟩
  | .hbm, ⟨1, _⟩ => ⟨S64x3072, .f32⟩
  | .hbm, ⟨2, _⟩ => ⟨S2x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S510x3, .i32⟩
  | .hbm, ⟨9, _⟩ => ⟨S1536x1536, .f32⟩
  | .hbm, ⟨10, _⟩ => ⟨S1536x1536, .f32⟩
  | .hbm, ⟨11, _⟩ => ⟨S1536, .f32⟩
  | .hbm, ⟨12, _⟩ => ⟨S1536, .i32⟩
  | .hbm, ⟨13, _⟩ => ⟨S64x1536, .f32⟩
  | .hbm, ⟨14, _⟩ => ⟨S64x1536, .f32⟩
  | .hbm, ⟨15, _⟩ => ⟨S64x512x3, .f32⟩
  | .hbm, ⟨16, _⟩ => ⟨S64x512x3, .f32⟩
  | .hbm, ⟨17, _⟩ => ⟨S512x3, .f32⟩
  | .hbm, ⟨18, _⟩ => ⟨S64x512x1, .f32⟩
  | .hbm, ⟨19, _⟩ => ⟨S64x512, .f32⟩
  | .hbm, ⟨20, _⟩ => ⟨S8x4096, .f32⟩
  | .hbm, ⟨21, _⟩ => ⟨S64x512x1, .f32⟩
  | .hbm, ⟨22, _⟩ => ⟨S64x512, .f32⟩
  | .hbm, ⟨23, _⟩ => ⟨S8x4096, .f32⟩
  | .hbm, ⟨24, _⟩ => ⟨S64x512x1, .f32⟩
  | .hbm, ⟨25, _⟩ => ⟨S64x512, .f32⟩
  | .hbm, ⟨26, _⟩ => ⟨S8x4096, .f32⟩
  | .hbm, ⟨27, _⟩ => ⟨S64x512x1, .f32⟩
  | .hbm, ⟨28, _⟩ => ⟨S64x512, .f32⟩
  | .hbm, ⟨29, _⟩ => ⟨S8x4096, .f32⟩
  | .hbm, ⟨30, _⟩ => ⟨S64x512x1, .f32⟩
  | .hbm, ⟨31, _⟩ => ⟨S64x512, .f32⟩
  | .hbm, ⟨32, _⟩ => ⟨S8x4096, .f32⟩
  | .hbm, ⟨33, _⟩ => ⟨S64x512x1, .f32⟩
  | .hbm, ⟨34, _⟩ => ⟨S64x512, .f32⟩
  | .hbm, ⟨35, _⟩ => ⟨S8x4096, .f32⟩
  | .hbm, ⟨36, _⟩ => ⟨S512x1, .f32⟩
  | .hbm, ⟨37, _⟩ => ⟨S512, .f32⟩
  | .hbm, ⟨38, _⟩ => ⟨S1x512, .f32⟩
  | .hbm, ⟨39, _⟩ => ⟨S64x512, .f32⟩
  | .hbm, ⟨40, _⟩ => ⟨S32768, .f32⟩
  | .hbm, ⟨41, _⟩ => ⟨S8x4096, .f32⟩
  | .hbm, ⟨42, _⟩ => ⟨S512x1, .f32⟩
  | .hbm, ⟨43, _⟩ => ⟨S512, .f32⟩
  | .hbm, ⟨44, _⟩ => ⟨S1x512, .f32⟩
  | .hbm, ⟨45, _⟩ => ⟨S64x512, .f32⟩
  | .hbm, ⟨46, _⟩ => ⟨S32768, .f32⟩
  | .hbm, ⟨47, _⟩ => ⟨S8x4096, .f32⟩
  | .hbm, ⟨48, _⟩ => ⟨S512x1, .f32⟩
  | .hbm, ⟨49, _⟩ => ⟨S512, .f32⟩
  | .hbm, ⟨50, _⟩ => ⟨S1x512, .f32⟩
  | .hbm, ⟨51, _⟩ => ⟨S64x512, .f32⟩
  | .hbm, ⟨52, _⟩ => ⟨S32768, .f32⟩
  | .hbm, ⟨53, _⟩ => ⟨S8x4096, .f32⟩
  | .hbm, ⟨54, _⟩ => ⟨S72x4096, .f32⟩
  | .hbm, ⟨55, _⟩ => ⟨S_, .f32⟩
  | .hbm, ⟨56, _⟩ => ⟨S64x1, .f32⟩
  | .hbm, ⟨57, _⟩ => ⟨S64x64, .f32⟩
  | .hbm, ⟨58, _⟩ => ⟨S1x64, .f32⟩
  | .hbm, ⟨59, _⟩ => ⟨S64, .f32⟩
  | .hbm, ⟨60, _⟩ => ⟨S64x1, .f32⟩
  | .hbm, ⟨61, _⟩ => ⟨S1x64, .f32⟩
  | .hbm, ⟨62, _⟩ => ⟨S64, .f32⟩
  | .hbm, ⟨63, _⟩ => ⟨S64x1, .f32⟩
  | .hbm, ⟨64, _⟩ => ⟨S64x1, .f32⟩
  | .hbm, ⟨65, _⟩ => ⟨S64x1, .f32⟩
  | .hbm, ⟨66, _⟩ => ⟨S1x1, .f32⟩
  | .hbm, ⟨67, _⟩ => ⟨S_, .f32⟩
  | .hbm, ⟨68, _⟩ => ⟨S64x1, .f32⟩
  | .hbm, ⟨69, _⟩ => ⟨S64x1, .f32⟩
  | .hbm, ⟨70, _⟩ => ⟨S1x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S64x1, .f32⟩
  | .hbm, ⟨75, _⟩ => ⟨S64x1, .f32⟩
  | .hbm, ⟨76, _⟩ => ⟨S_, .f32⟩
  | .hbm, ⟨77, _⟩ => ⟨S64x1, .f32⟩
  | .hbm, ⟨78, _⟩ => ⟨S64x136, .f32⟩
  | .hbm, ⟨79, _⟩ => ⟨S24x4096, .f32⟩
  | .hbm, ⟨80, _⟩ => ⟨S8x4096, .f32⟩
  | .hbm, ⟨81, _⟩ => ⟨S64x512, .f32⟩
  | .hbm, ⟨82, _⟩ => ⟨S8x4096, .f32⟩
  | .hbm, ⟨83, _⟩ => ⟨S64x512, .f32⟩
  | .hbm, ⟨84, _⟩ => ⟨S8x4096, .f32⟩
  | .hbm, ⟨85, _⟩ => ⟨S64x512, .f32⟩
  | .hbm, ⟨86, _⟩ => ⟨S64x512x1, .f32⟩
  | .hbm, ⟨87, _⟩ => ⟨S64x512x1, .f32⟩
  | .hbm, ⟨88, _⟩ => ⟨S64x512x1, .f32⟩
  | .hbm, ⟨89, _⟩ => ⟨S64x512x3, .f32⟩
  | .hbm, ⟨90, _⟩ => ⟨S64x1536, .f32⟩
  | .hbm, ⟨91, _⟩ => ⟨S64x3072, .f32⟩
  | .local _ .vmem, ⟨0, _⟩ => ⟨S72x4096, .f32⟩
  | .local _ .vmem, ⟨1, _⟩ => ⟨S64x136, .f32⟩
  | .local _ .vmem, ⟨2, _⟩ => ⟨S24x4096, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_0 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_1 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S72x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x136 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "l_eff" => some ((10⁻¹ : ℝ) : EReal)
  | _ => none
-- ==== ReferenceIdeal.lean ====
abbrev S_ : Shape := ⟨0, ![]⟩
abbrev S64x3072 : Shape := ⟨2, ![64, 3072]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S510x3 : Shape := ⟨2, ![510, 3]⟩
abbrev S1536x1536 : Shape := ⟨2, ![1536, 1536]⟩
abbrev S1536 : Shape := ⟨1, ![1536]⟩
abbrev S64x1536 : Shape := ⟨2, ![64, 1536]⟩
abbrev S64x512x3 : Shape := ⟨3, ![64, 512, 3]⟩
abbrev S1530 : Shape := ⟨1, ![1530]⟩
abbrev S1530x1 : Shape := ⟨2, ![1530, 1]⟩
abbrev S64x1530x3 : Shape := ⟨3, ![64, 1530, 3]⟩
abbrev S64x510x3x3 : Shape := ⟨4, ![64, 510, 3, 3]⟩
abbrev S64x510x1x1 : Shape := ⟨4, ![64, 510, 1, 1]⟩
abbrev S64x510 : Shape := ⟨2, ![64, 510]⟩
abbrev S64x510x1 : Shape := ⟨3, ![64, 510, 1]⟩
abbrev S64x510x2 : Shape := ⟨3, ![64, 510, 2]⟩
abbrev S64x510x64 : Shape := ⟨3, ![64, 510, 64]⟩
abbrev S1x1x64 : Shape := ⟨3, ![1, 1, 64]⟩
abbrev S1x1x1 : Shape := ⟨3, ![1, 1, 1]⟩
abbrev S64x510x9 : Shape := ⟨3, ![64, 510, 9]⟩
abbrev S64x4590 : Shape := ⟨2, ![64, 4590]⟩
abbrev S510x3x1 : Shape := ⟨3, ![510, 3, 1]⟩
abbrev S3 : Shape := ⟨1, ![3]⟩
abbrev S1x1x3 : Shape := ⟨3, ![1, 1, 3]⟩
abbrev S510x3x3 : Shape := ⟨3, ![510, 3, 3]⟩
abbrev S4590 : Shape := ⟨1, ![4590]⟩
abbrev S4590x1 : Shape := ⟨2, ![4590, 1]⟩
abbrev S1x1536 : Shape := ⟨2, ![1, 1536]⟩
abbrev S1536x1 : Shape := ⟨2, ![1536, 1]⟩

abbrev nBuf : Space → Nat
  | .hbm => 548
  | .vmem => 0
  | .smem => 0
  | _ => 0

abbrev hbmTy0_0 (i : Nat) : BufTy := match i % 128 with
  | 0 => ⟨S_, .f32⟩
  | 1 => ⟨S64x3072, .f32⟩
  | 2 => ⟨S2x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S510x3, .i32⟩
  | 9 => ⟨S1536x1536, .f32⟩
  | 10 => ⟨S1536x1536, .f32⟩
  | 11 => ⟨S1536, .f32⟩
  | 12 => ⟨S1536, .i32⟩
  | 13 => ⟨S64x1536, .f32⟩
  | 14 => ⟨S64x1536, .f32⟩
  | 15 => ⟨S64x512x3, .f32⟩
  | 16 => ⟨S1530, .i32⟩
  | 17 => ⟨S1530x1, .i32⟩
  | 18 => ⟨S64x1530x3, .f32⟩
  | 19 => ⟨S64x510x3x3, .f32⟩
  | 20 => ⟨S64x510x1x1, .f32⟩
  | 21 => ⟨S64x510, .f32⟩
  | 22 => ⟨S64x510x1x1, .f32⟩
  | 23 => ⟨S64x510, .f32⟩
  | 24 => ⟨S64x510x1x1, .f32⟩
  | 25 => ⟨S64x510, .f32⟩
  | 26 => ⟨S64x510x1x1, .f32⟩
  | 27 => ⟨S64x510, .f32⟩
  | 28 => ⟨S64x510x1x1, .f32⟩
  | 29 => ⟨S64x510, .f32⟩
  | 30 => ⟨S64x510x1x1, .f32⟩
  | 31 => ⟨S64x510, .f32⟩
  | 32 => ⟨S64x510x1x1, .f32⟩
  | 33 => ⟨S64x510, .f32⟩
  | 34 => ⟨S64x510x1x1, .f32⟩
  | 35 => ⟨S64x510, .f32⟩
  | 36 => ⟨S64x510x1x1, .f32⟩
  | 37 => ⟨S64x510, .f32⟩
  | 38 => ⟨S_, .f32⟩
  | 39 => ⟨S_, .f32⟩
  | 40 => ⟨S_, .f32⟩
  | 41 => ⟨S64x510, .f32⟩
  | 42 => ⟨S64x510, .f32⟩
  | 43 => ⟨S64x510, .f32⟩
  | 44 => ⟨S64x510, .f32⟩
  | 45 => ⟨S64x510, .f32⟩
  | 46 => ⟨S64x510, .f32⟩
  | 47 => ⟨S64x510, .f32⟩
  | 48 => ⟨S64x510, .f32⟩
  | 49 => ⟨S_, .f32⟩
  | 50 => ⟨S64x510, .f32⟩
  | 51 => ⟨S64x510, .f32⟩
  | 52 => ⟨S64x510, .f32⟩
  | 53 => ⟨S_, .f32⟩
  | 54 => ⟨S64x510, .f32⟩
  | 55 => ⟨S64x510, .f32⟩
  | 56 => ⟨S64x510, .f32⟩
  | 57 => ⟨S64x510, .f32⟩
  | 58 => ⟨S64x510, .f32⟩
  | 59 => ⟨S64x510, .f32⟩
  | 60 => ⟨S64x510, .f32⟩
  | 61 => ⟨S64x510, .f32⟩
  | 62 => ⟨S64x510, .f32⟩
  | 63 => ⟨S64x510, .f32⟩
  | 64 => ⟨S_, .f32⟩
  | 65 => ⟨S64x510, .f32⟩
  | 66 => ⟨S64x510, .f32⟩
  | 67 => ⟨S64x510, .f32⟩
  | 68 => ⟨S_, .f32⟩
  | 69 => ⟨S64x510, .f32⟩
  | 70 => ⟨S64x510, .f32⟩
  | 71 => ⟨S64x510, .f32⟩
  | 72 => ⟨S64x510, .f32⟩
  | 73 => ⟨S64x510, .f32⟩
  | 74 => ⟨S64x510, .f32⟩
  | 75 => ⟨S64x510, .f32⟩
  | 76 => ⟨S64x510, .f32⟩
  | 77 => ⟨S64x510, .f32⟩
  | 78 => ⟨S64x510, .f32⟩
  | 79 => ⟨S64x510, .f32⟩
  | 80 => ⟨S_, .f32⟩
  | 81 => ⟨S64x510, .f32⟩
  | 82 => ⟨S64x510, .f32⟩
  | 83 => ⟨S64x510, .f32⟩
  | 84 => ⟨S64x510, .f32⟩
  | 85 => ⟨S64x510, .f32⟩
  | 86 => ⟨S64x510, .f32⟩
  | 87 => ⟨S64x510, .f32⟩
  | 88 => ⟨S64x510, .f32⟩
  | 89 => ⟨S64x510, .f32⟩
  | 90 => ⟨S64x510, .f32⟩
  | 91 => ⟨S64x510, .f32⟩
  | 92 => ⟨S64x510, .f32⟩
  | 93 => ⟨S64x510, .f32⟩
  | 94 => ⟨S64x510, .f32⟩
  | 95 => ⟨S64x510, .f32⟩
  | 96 => ⟨S64x510, .f32⟩
  | 97 => ⟨S64x510, .f32⟩
  | 98 => ⟨S64x510, .f32⟩
  | 99 => ⟨S64x510, .f32⟩
  | 100 => ⟨S64x510, .f32⟩
  | 101 => ⟨S64x510, .f32⟩
  | 102 => ⟨S64x510, .f32⟩
  | 103 => ⟨S_, .f32⟩
  | 104 => ⟨S64x510, .f32⟩
  | 105 => ⟨S64x510, .f32⟩
  | 106 => ⟨S64x510, .f32⟩
  | 107 => ⟨S_, .f32⟩
  | 108 => ⟨S64x510, .f32⟩
  | 109 => ⟨S64x510, .f32⟩
  | 110 => ⟨S_, .f32⟩
  | 111 => ⟨S64x510, .f32⟩
  | 112 => ⟨S64x510, .f32⟩
  | 113 => ⟨S64x510, .f32⟩
  | 114 => ⟨S64x510, .f32⟩
  | 115 => ⟨S64x510, .f32⟩
  | 116 => ⟨S64x510, .f32⟩
  | 117 => ⟨S64x510, .f32⟩
  | 118 => ⟨S_, .f32⟩
  | 119 => ⟨S64x510, .f32⟩
  | 120 => ⟨S64x510, .f32⟩
  | 121 => ⟨S64x510, .f32⟩
  | 122 => ⟨S_, .f32⟩
  | 123 => ⟨S64x510, .f32⟩
  | 124 => ⟨S64x510, .f32⟩
  | 125 => ⟨S64x510, .f32⟩
  | 126 => ⟨S64x510, .f32⟩
  | 127 => ⟨S64x510, .f32⟩
  | _ => ⟨S_, .f32⟩

abbrev hbmTy0_1 (i : Nat) : BufTy := match i % 128 with
  | 0 => ⟨S64x510, .f32⟩
  | 1 => ⟨S64x510, .f32⟩
  | 2 => ⟨S_, .f32⟩
  | 3 => ⟨S64x510, .f32⟩
  | 4 => ⟨S64x510, .f32⟩
  | 5 => ⟨S64x510, .f32⟩
  | 6 => ⟨S_, .f32⟩
  | 7 => ⟨S64x510, .f32⟩
  | 8 => ⟨S64x510, .f32⟩
  | 9 => ⟨S64x510, .f32⟩
  | 10 => ⟨S64x510, .f32⟩
  | 11 => ⟨S64x510, .f32⟩
  | 12 => ⟨S64x510, .f32⟩
  | 13 => ⟨S64x510, .f32⟩
  | 14 => ⟨S64x510, .f32⟩
  | 15 => ⟨S64x510, .f32⟩
  | 16 => ⟨S_, .f32⟩
  | 17 => ⟨S64x510, .f32⟩
  | 18 => ⟨S64x510, .f32⟩
  | 19 => ⟨S64x510, .f32⟩
  | 20 => ⟨S64x510, .f32⟩
  | 21 => ⟨S_, .f32⟩
  | 22 => ⟨S64x510, .f32⟩
  | 23 => ⟨S64x510, .f32⟩
  | 24 => ⟨S64x510, .f32⟩
  | 25 => ⟨S64x510, .f32⟩
  | 26 => ⟨S64x510x1, .f32⟩
  | 27 => ⟨S64x510x1, .f32⟩
  | 28 => ⟨S64x510x2, .f32⟩
  | 29 => ⟨S64x510x64, .f32⟩
  | 30 => ⟨S1x1x64, .f32⟩
  | 31 => ⟨S64x510x64, .f32⟩
  | 32 => ⟨S64x510x64, .f32⟩
  | 33 => ⟨S_, .f32⟩
  | 34 => ⟨S64x510x64, .f32⟩
  | 35 => ⟨S64x510x64, .f32⟩
  | 36 => ⟨S64x510x64, .f32⟩
  | 37 => ⟨S64x510x64, .f32⟩
  | 38 => ⟨S64x510x64, .i1⟩
  | 39 => ⟨S64x510x64, .f32⟩
  | 40 => ⟨S64x510x64, .f32⟩
  | 41 => ⟨S64x510x64, .f32⟩
  | 42 => ⟨S64x510x64, .f32⟩
  | 43 => ⟨S64x510x64, .f32⟩
  | 44 => ⟨S64x510x64, .f32⟩
  | 45 => ⟨S64x510x64, .f32⟩
  | 46 => ⟨S64x510x64, .f32⟩
  | 47 => ⟨S_, .f32⟩
  | 48 => ⟨S64x510x64, .f32⟩
  | 49 => ⟨S64x510x64, .i1⟩
  | 50 => ⟨S_, .f32⟩
  | 51 => ⟨S64x510x64, .f32⟩
  | 52 => ⟨S64x510x64, .f32⟩
  | 53 => ⟨S_, .f32⟩
  | 54 => ⟨S64x510x64, .f32⟩
  | 55 => ⟨S64x510x64, .i1⟩
  | 56 => ⟨S_, .f32⟩
  | 57 => ⟨S64x510x64, .f32⟩
  | 58 => ⟨S64x510x64, .f32⟩
  | 59 => ⟨S64x510x64, .f32⟩
  | 60 => ⟨S64x510x64, .f32⟩
  | 61 => ⟨S_, .f32⟩
  | 62 => ⟨S_, .f32⟩
  | 63 => ⟨S_, .i1⟩
  | 64 => ⟨S_, .f32⟩
  | 65 => ⟨S_, .f32⟩
  | 66 => ⟨S_, .f32⟩
  | 67 => ⟨S_, .f32⟩
  | 68 => ⟨S64x510x64, .f32⟩
  | 69 => ⟨S64x510x64, .i1⟩
  | 70 => ⟨S_, .f32⟩
  | 71 => ⟨S64x510x64, .f32⟩
  | 72 => ⟨S64x510x64, .f32⟩
  | 73 => ⟨S64x510x64, .f32⟩
  | 74 => ⟨S64x510x64, .f32⟩
  | 75 => ⟨S64x510x64, .f32⟩
  | 76 => ⟨S_, .f32⟩
  | 77 => ⟨S64x510x64, .f32⟩
  | 78 => ⟨S64x510x64, .f32⟩
  | 79 => ⟨S64x510x64, .f32⟩
  | 80 => ⟨S1x1x64, .f32⟩
  | 81 => ⟨S64x510x64, .f32⟩
  | 82 => ⟨S64x510x64, .f32⟩
  | 83 => ⟨S_, .f32⟩
  | 84 => ⟨S64x510x64, .f32⟩
  | 85 => ⟨S64x510x64, .f32⟩
  | 86 => ⟨S64x510x64, .f32⟩
  | 87 => ⟨S64x510x64, .f32⟩
  | 88 => ⟨S64x510x64, .i1⟩
  | 89 => ⟨S64x510x64, .f32⟩
  | 90 => ⟨S64x510x64, .f32⟩
  | 91 => ⟨S64x510x64, .f32⟩
  | 92 => ⟨S64x510x64, .f32⟩
  | 93 => ⟨S64x510x64, .f32⟩
  | 94 => ⟨S64x510x64, .f32⟩
  | 95 => ⟨S64x510x64, .f32⟩
  | 96 => ⟨S64x510x64, .f32⟩
  | 97 => ⟨S_, .f32⟩
  | 98 => ⟨S64x510x64, .f32⟩
  | 99 => ⟨S64x510x64, .i1⟩
  | 100 => ⟨S_, .f32⟩
  | 101 => ⟨S64x510x64, .f32⟩
  | 102 => ⟨S64x510x64, .f32⟩
  | 103 => ⟨S_, .f32⟩
  | 104 => ⟨S64x510x64, .f32⟩
  | 105 => ⟨S64x510x64, .i1⟩
  | 106 => ⟨S_, .f32⟩
  | 107 => ⟨S64x510x64, .f32⟩
  | 108 => ⟨S64x510x64, .f32⟩
  | 109 => ⟨S64x510x64, .f32⟩
  | 110 => ⟨S64x510x64, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S64x510x64, .f32⟩
  | 119 => ⟨S64x510x64, .i1⟩
  | 120 => ⟨S_, .f32⟩
  | 121 => ⟨S64x510x64, .f32⟩
  | 122 => ⟨S64x510x64, .f32⟩
  | 123 => ⟨S64x510x64, .f32⟩
  | 124 => ⟨S64x510x64, .f32⟩
  | 125 => ⟨S64x510x64, .f32⟩
  | 126 => ⟨S_, .f32⟩
  | 127 => ⟨S64x510x64, .f32⟩
  | _ => ⟨S_, .f32⟩

abbrev hbmTy0_2 (i : Nat) : BufTy := match i % 128 with
  | 0 => ⟨S64x510x64, .f32⟩
  | 1 => ⟨S64x510x1, .f32⟩
  | 2 => ⟨S1x1x1, .f32⟩
  | 3 => ⟨S64x510x1, .f32⟩
  | 4 => ⟨S64x510x1, .f32⟩
  | 5 => ⟨S_, .f32⟩
  | 6 => ⟨S_, .f32⟩
  | 7 => ⟨S_, .f32⟩
  | 8 => ⟨S64x510x1, .f32⟩
  | 9 => ⟨S64x510x64, .f32⟩
  | 10 => ⟨S64x510x64, .f32⟩
  | 11 => ⟨S64x510x64, .f32⟩
  | 12 => ⟨S64x510x64, .f32⟩
  | 13 => ⟨S64x510x2, .f32⟩
  | 14 => ⟨S64x510x1, .f32⟩
  | 15 => ⟨S64x510, .f32⟩
  | 16 => ⟨S64x510x1, .f32⟩
  | 17 => ⟨S64x510, .f32⟩
  | 18 => ⟨S64x510, .f32⟩
  | 19 => ⟨S64x510, .f32⟩
  | 20 => ⟨S64x510, .f32⟩
  | 21 => ⟨S64x510, .f32⟩
  | 22 => ⟨S64x510, .f32⟩
  | 23 => ⟨S64x510, .f32⟩
  | 24 => ⟨S64x510, .f32⟩
  | 25 => ⟨S64x510, .f32⟩
  | 26 => ⟨S64x510, .f32⟩
  | 27 => ⟨S64x510, .f32⟩
  | 28 => ⟨S64x510, .f32⟩
  | 29 => ⟨S64x510, .f32⟩
  | 30 => ⟨S64x510, .f32⟩
  | 31 => ⟨S64x510, .f32⟩
  | 32 => ⟨S64x510, .f32⟩
  | 33 => ⟨S64x510, .f32⟩
  | 34 => ⟨S64x510, .f32⟩
  | 35 => ⟨S64x510, .f32⟩
  | 36 => ⟨S64x510, .f32⟩
  | 37 => ⟨S64x510, .f32⟩
  | 38 => ⟨S64x510, .f32⟩
  | 39 => ⟨S64x510, .f32⟩
  | 40 => ⟨S64x510, .f32⟩
  | 41 => ⟨S64x510, .f32⟩
  | 42 => ⟨S64x510, .f32⟩
  | 43 => ⟨S64x510, .f32⟩
  | 44 => ⟨S64x510, .f32⟩
  | 45 => ⟨S64x510, .f32⟩
  | 46 => ⟨S64x510, .f32⟩
  | 47 => ⟨S64x510, .f32⟩
  | 48 => ⟨S64x510, .f32⟩
  | 49 => ⟨S64x510, .f32⟩
  | 50 => ⟨S64x510, .f32⟩
  | 51 => ⟨S64x510, .f32⟩
  | 52 => ⟨S64x510, .f32⟩
  | 53 => ⟨S64x510, .f32⟩
  | 54 => ⟨S64x510, .f32⟩
  | 55 => ⟨S64x510, .f32⟩
  | 56 => ⟨S64x510, .f32⟩
  | 57 => ⟨S64x510, .f32⟩
  | 58 => ⟨S_, .f32⟩
  | 59 => ⟨S64x510, .f32⟩
  | 60 => ⟨S64x510, .f32⟩
  | 61 => ⟨S64x510, .f32⟩
  | 62 => ⟨S64x510, .f32⟩
  | 63 => ⟨S64x510, .f32⟩
  | 64 => ⟨S64x510, .f32⟩
  | 65 => ⟨S64x510, .f32⟩
  | 66 => ⟨S64x510, .f32⟩
  | 67 => ⟨S64x510, .f32⟩
  | 68 => ⟨S64x510, .f32⟩
  | 69 => ⟨S64x510, .f32⟩
  | 70 => ⟨S64x510, .f32⟩
  | 71 => ⟨S64x510, .f32⟩
  | 72 => ⟨S64x510, .f32⟩
  | 73 => ⟨S64x510, .f32⟩
  | 74 => ⟨S64x510, .f32⟩
  | 75 => ⟨S64x510, .f32⟩
  | 76 => ⟨S64x510, .f32⟩
  | 77 => ⟨S64x510, .f32⟩
  | 78 => ⟨S64x510, .f32⟩
  | 79 => ⟨S64x510, .f32⟩
  | 80 => ⟨S64x510, .f32⟩
  | 81 => ⟨S64x510, .f32⟩
  | 82 => ⟨S64x510, .f32⟩
  | 83 => ⟨S64x510, .f32⟩
  | 84 => ⟨S64x510, .f32⟩
  | 85 => ⟨S64x510, .f32⟩
  | 86 => ⟨S64x510, .f32⟩
  | 87 => ⟨S64x510, .f32⟩
  | 88 => ⟨S64x510, .f32⟩
  | 89 => ⟨S64x510, .f32⟩
  | 90 => ⟨S64x510, .f32⟩
  | 91 => ⟨S64x510, .f32⟩
  | 92 => ⟨S64x510, .f32⟩
  | 93 => ⟨S64x510, .f32⟩
  | 94 => ⟨S64x510, .f32⟩
  | 95 => ⟨S64x510, .f32⟩
  | 96 => ⟨S64x510, .f32⟩
  | 97 => ⟨S64x510, .f32⟩
  | 98 => ⟨S64x510, .f32⟩
  | 99 => ⟨S64x510, .f32⟩
  | 100 => ⟨S64x510, .f32⟩
  | 101 => ⟨S64x510, .f32⟩
  | 102 => ⟨S64x510, .f32⟩
  | 103 => ⟨S64x510, .f32⟩
  | 104 => ⟨S64x510, .f32⟩
  | 105 => ⟨S64x510, .f32⟩
  | 106 => ⟨S64x510, .f32⟩
  | 107 => ⟨S_, .f32⟩
  | 108 => ⟨S64x510, .f32⟩
  | 109 => ⟨S64x510, .f32⟩
  | 110 => ⟨S64x510, .f32⟩
  | 111 => ⟨S64x510, .f32⟩
  | 112 => ⟨S64x510, .f32⟩
  | 113 => ⟨S64x510, .f32⟩
  | 114 => ⟨S64x510, .f32⟩
  | 115 => ⟨S64x510, .f32⟩
  | 116 => ⟨S64x510, .f32⟩
  | 117 => ⟨S64x510, .f32⟩
  | 118 => ⟨S64x510, .f32⟩
  | 119 => ⟨S64x510, .f32⟩
  | 120 => ⟨S64x510, .f32⟩
  | 121 => ⟨S64x510, .f32⟩
  | 122 => ⟨S64x510, .f32⟩
  | 123 => ⟨S64x510, .f32⟩
  | 124 => ⟨S64x510, .f32⟩
  | 125 => ⟨S64x510, .f32⟩
  | 126 => ⟨S64x510, .f32⟩
  | 127 => ⟨S64x510, .f32⟩
  | _ => ⟨S_, .f32⟩

abbrev hbmTy0_3 (i : Nat) : BufTy := match i % 128 with
  | 0 => ⟨S64x510, .f32⟩
  | 1 => ⟨S64x510, .f32⟩
  | 2 => ⟨S64x510, .f32⟩
  | 3 => ⟨S64x510, .f32⟩
  | 4 => ⟨S64x510, .f32⟩
  | 5 => ⟨S64x510, .f32⟩
  | 6 => ⟨S64x510, .f32⟩
  | 7 => ⟨S64x510, .f32⟩
  | 8 => ⟨S64x510, .f32⟩
  | 9 => ⟨S64x510, .f32⟩
  | 10 => ⟨S64x510, .f32⟩
  | 11 => ⟨S64x510, .f32⟩
  | 12 => ⟨S64x510, .f32⟩
  | 13 => ⟨S64x510, .f32⟩
  | 14 => ⟨S64x510, .f32⟩
  | 15 => ⟨S64x510, .f32⟩
  | 16 => ⟨S64x510, .f32⟩
  | 17 => ⟨S64x510, .f32⟩
  | 18 => ⟨S64x510, .f32⟩
  | 19 => ⟨S64x510, .f32⟩
  | 20 => ⟨S64x510, .f32⟩
  | 21 => ⟨S64x510, .f32⟩
  | 22 => ⟨S64x510, .f32⟩
  | 23 => ⟨S64x510, .f32⟩
  | 24 => ⟨S64x510x1, .f32⟩
  | 25 => ⟨S64x510x1, .f32⟩
  | 26 => ⟨S64x510x1, .f32⟩
  | 27 => ⟨S64x510x1, .f32⟩
  | 28 => ⟨S64x510x1, .f32⟩
  | 29 => ⟨S64x510x1, .f32⟩
  | 30 => ⟨S64x510x1, .f32⟩
  | 31 => ⟨S64x510x1, .f32⟩
  | 32 => ⟨S64x510x1, .f32⟩
  | 33 => ⟨S64x510x9, .f32⟩
  | 34 => ⟨S64x4590, .f32⟩
  | 35 => ⟨S64x4590, .f32⟩
  | 36 => ⟨S510x3x1, .i32⟩
  | 37 => ⟨S_, .i32⟩
  | 38 => ⟨S510x3x1, .i32⟩
  | 39 => ⟨S510x3x1, .i32⟩
  | 40 => ⟨S3, .i32⟩
  | 41 => ⟨S1x1x3, .i32⟩
  | 42 => ⟨S510x3x3, .i32⟩
  | 43 => ⟨S510x3x3, .i32⟩
  | 44 => ⟨S510x3x3, .i32⟩
  | 45 => ⟨S4590, .i32⟩
  | 46 => ⟨S_, .f32⟩
  | 47 => ⟨S64x1536, .f32⟩
  | 48 => ⟨S_, .i32⟩
  | 49 => ⟨S4590, .i32⟩
  | 50 => ⟨S4590, .i1⟩
  | 51 => ⟨S_, .i32⟩
  | 52 => ⟨S4590, .i32⟩
  | 53 => ⟨S4590, .i32⟩
  | 54 => ⟨S4590, .i32⟩
  | 55 => ⟨S4590x1, .i32⟩
  | 56 => ⟨S64x1536, .f32⟩
  | 57 => ⟨S1536x1536, .f32⟩
  | 58 => ⟨S64x1536, .f32⟩
  | 59 => ⟨S64x1536, .f32⟩
  | 60 => ⟨S64x1536, .f32⟩
  | 61 => ⟨S1x1536, .f32⟩
  | 62 => ⟨S64x1536, .f32⟩
  | 63 => ⟨S64x1536, .f32⟩
  | 64 => ⟨S1536x1, .i32⟩
  | 65 => ⟨S64x1536, .f32⟩
  | 66 => ⟨S_, .i32⟩
  | 67 => ⟨S_, .i32⟩
  | 68 => ⟨S_, .i32⟩
  | 69 => ⟨S_, .i32⟩
  | 70 => ⟨S1536x1536, .f32⟩
  | 71 => ⟨S64x1536, .f32⟩
  | 72 => ⟨S_, .i32⟩
  | 73 => ⟨S_, .i1⟩
  | 74 => ⟨S_, .i32⟩
  | 75 => ⟨S_, .i32⟩
  | 76 => ⟨S1536, .i32⟩
  | 77 => ⟨S_, .i32⟩
  | 78 => ⟨S1536, .i32⟩
  | 79 => ⟨S1536, .i1⟩
  | 80 => ⟨S1536x1, .i1⟩
  | 81 => ⟨S_, .f32⟩
  | 82 => ⟨S_, .f32⟩
  | 83 => ⟨S1536x1536, .i1⟩
  | 84 => ⟨S1536x1536, .f32⟩
  | 85 => ⟨S1536x1536, .f32⟩
  | 86 => ⟨S_, .f32⟩
  | 87 => ⟨S1536, .f32⟩
  | 88 => ⟨S1x1536, .i1⟩
  | 89 => ⟨S_, .f32⟩
  | 90 => ⟨S_, .f32⟩
  | 91 => ⟨S1536x1536, .i1⟩
  | 92 => ⟨S1536x1536, .f32⟩
  | 93 => ⟨S1536x1536, .f32⟩
  | 94 => ⟨S_, .f32⟩
  | 95 => ⟨S1536, .f32⟩
  | 96 => ⟨S1x1536, .i1⟩
  | 97 => ⟨S_, .f32⟩
  | 98 => ⟨S_, .f32⟩
  | 99 => ⟨S64x1536, .i1⟩
  | 100 => ⟨S64x1536, .f32⟩
  | 101 => ⟨S64x1536, .f32⟩
  | 102 => ⟨S_, .f32⟩
  | 103 => ⟨S64, .f32⟩
  | 104 => ⟨S_, .f32⟩
  | 105 => ⟨S_, .f32⟩
  | 106 => ⟨S1536, .f32⟩
  | 107 => ⟨S1536, .f32⟩
  | 108 => ⟨S_, .f32⟩
  | 109 => ⟨S_, .f32⟩
  | 110 => ⟨S1536, .f32⟩
  | 111 => ⟨S1536, .f32⟩
  | 112 => ⟨S64, .f32⟩
  | 113 => ⟨S64, .f32⟩
  | 114 => ⟨S1536x1, .i1⟩
  | 115 => ⟨S1x1536, .f32⟩
  | 116 => ⟨S1536x1, .f32⟩
  | 117 => ⟨S1x1536, .f32⟩
  | 118 => ⟨S1536x1536, .f32⟩
  | 119 => ⟨S1536x1536, .f32⟩
  | 120 => ⟨S1536x1536, .f32⟩
  | 121 => ⟨S1536x1536, .f32⟩
  | 122 => ⟨S1536x1536, .i1⟩
  | 123 => ⟨S1536x1536, .f32⟩
  | 124 => ⟨S1536x1536, .f32⟩
  | 125 => ⟨S1x1536, .i1⟩
  | 126 => ⟨S64x1, .f32⟩
  | 127 => ⟨S64x1, .f32⟩
  | _ => ⟨S_, .f32⟩

abbrev hbmTy0_4 (i : Nat) : BufTy := match i % 128 with
  | 0 => ⟨S1x1536, .f32⟩
  | 1 => ⟨S64x1536, .f32⟩
  | 2 => ⟨S64x1536, .f32⟩
  | 3 => ⟨S64x1536, .f32⟩
  | 4 => ⟨S64x1536, .f32⟩
  | 5 => ⟨S64x1536, .i1⟩
  | 6 => ⟨S64x1536, .f32⟩
  | 7 => ⟨S64x1536, .f32⟩
  | 8 => ⟨S_, .i32⟩
  | 9 => ⟨S_, .i32⟩
  | 10 => ⟨S64x1536, .f32⟩
  | 11 => ⟨S1536x1, .i32⟩
  | 12 => ⟨S64x1536, .f32⟩
  | 13 => ⟨S_, .f32⟩
  | 14 => ⟨S64x3072, .f32⟩
  | 15 => ⟨S_, .i32⟩
  | 16 => ⟨S1536, .i32⟩
  | 17 => ⟨S1536, .i1⟩
  | 18 => ⟨S_, .i32⟩
  | 19 => ⟨S1536, .i32⟩
  | 20 => ⟨S1536, .i32⟩
  | 21 => ⟨S1536, .i32⟩
  | 22 => ⟨S1536x1, .i32⟩
  | 23 => ⟨S64x3072, .f32⟩
  | 24 => ⟨S_, .i32⟩
  | 25 => ⟨S1536, .i32⟩
  | 26 => ⟨S1536, .i32⟩
  | 27 => ⟨S_, .i32⟩
  | 28 => ⟨S1536, .i32⟩
  | 29 => ⟨S1536, .i1⟩
  | 30 => ⟨S_, .i32⟩
  | 31 => ⟨S1536, .i32⟩
  | 32 => ⟨S1536, .i32⟩
  | 33 => ⟨S1536, .i32⟩
  | 34 => ⟨S1536x1, .i32⟩
  | 35 => ⟨S64x3072, .f32⟩
  | _ => ⟨S_, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S_, .f32⟩

abbrev bufTy : (tb : Table) → Fin (tcTables nBuf tb) → BufTy
  | .hbm, ⟨i, _⟩ => hbmTy i
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_cst_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_4 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_5 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_6 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_7 : Ref sig .tc := ⟨.hbm, 107, rfl⟩
abbrev main_v85 : Ref sig .tc := ⟨.hbm, 108, rfl⟩
abbrev main_v86 : Ref sig .tc := ⟨.hbm, 109, rfl⟩
abbrev main_cst_8 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_9 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_10 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_11 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_12 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_13 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_14 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_15 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_cst_16 : Ref sig .tc := ⟨.hbm, 175, rfl⟩
abbrev main_v144 : Ref sig .tc := ⟨.hbm, 176, rfl⟩
abbrev main_v145 : Ref sig .tc := ⟨.hbm, 177, rfl⟩
abbrev main_cst_17 : Ref sig .tc := ⟨.hbm, 178, rfl⟩
abbrev main_v146 : Ref sig .tc := ⟨.hbm, 179, rfl⟩
abbrev main_v147 : Ref sig .tc := ⟨.hbm, 180, rfl⟩
abbrev main_cst_18 : Ref sig .tc := ⟨.hbm, 181, rfl⟩
abbrev main_v148 : Ref sig .tc := ⟨.hbm, 182, rfl⟩
abbrev main_v149 : Ref sig .tc := ⟨.hbm, 183, rfl⟩
abbrev main_cst_19 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_cst_20 : Ref sig .tc := ⟨.hbm, 189, rfl⟩
abbrev main_cst_21 : Ref sig .tc := ⟨.hbm, 190, rfl⟩
abbrev main_v154 : Ref sig .tc := ⟨.hbm, 191, rfl⟩
abbrev main_cst_22 : Ref sig .tc := ⟨.hbm, 192, rfl⟩
abbrev main_cst_23 : Ref sig .tc := ⟨.hbm, 193, rfl⟩
abbrev main_v155 : Ref sig .tc := ⟨.hbm, 194, rfl⟩
abbrev main_cst_24 : Ref sig .tc := ⟨.hbm, 195, rfl⟩
abbrev main_v156 : Ref sig .tc := ⟨.hbm, 196, rfl⟩
abbrev main_v157 : Ref sig .tc := ⟨.hbm, 197, rfl⟩
abbrev main_cst_25 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_cst_26 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_27 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_cst_28 : Ref sig .tc := ⟨.hbm, 225, rfl⟩
abbrev main_v182 : Ref sig .tc := ⟨.hbm, 226, rfl⟩
abbrev main_v183 : Ref sig .tc := ⟨.hbm, 227, rfl⟩
abbrev main_cst_29 : Ref sig .tc := ⟨.hbm, 228, rfl⟩
abbrev main_v184 : Ref sig .tc := ⟨.hbm, 229, rfl⟩
abbrev main_v185 : Ref sig .tc := ⟨.hbm, 230, rfl⟩
abbrev main_cst_30 : Ref sig .tc := ⟨.hbm, 231, rfl⟩
abbrev main_v186 : Ref sig .tc := ⟨.hbm, 232, rfl⟩
abbrev main_v187 : Ref sig .tc := ⟨.hbm, 233, rfl⟩
abbrev main_cst_31 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_cst_32 : Ref sig .tc := ⟨.hbm, 239, rfl⟩
abbrev main_cst_33 : Ref sig .tc := ⟨.hbm, 240, rfl⟩
abbrev main_v192 : Ref sig .tc := ⟨.hbm, 241, rfl⟩
abbrev main_cst_34 : Ref sig .tc := ⟨.hbm, 242, rfl⟩
abbrev main_cst_35 : Ref sig .tc := ⟨.hbm, 243, rfl⟩
abbrev main_v193 : Ref sig .tc := ⟨.hbm, 244, rfl⟩
abbrev main_cst_36 : Ref sig .tc := ⟨.hbm, 245, rfl⟩
abbrev main_v194 : Ref sig .tc := ⟨.hbm, 246, rfl⟩
abbrev main_v195 : Ref sig .tc := ⟨.hbm, 247, rfl⟩
abbrev main_cst_37 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_cst_38 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_cst_39 : Ref sig .tc := ⟨.hbm, 261, rfl⟩
abbrev main_v207 : Ref sig .tc := ⟨.hbm, 262, rfl⟩
abbrev main_cst_40 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_cst_41 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_v278 : Ref sig .tc := ⟨.hbm, 335, rfl⟩
abbrev main_v279 : Ref sig .tc := ⟨.hbm, 336, rfl⟩
abbrev main_v280 : Ref sig .tc := ⟨.hbm, 337, rfl⟩
abbrev main_v281 : Ref sig .tc := ⟨.hbm, 338, rfl⟩
abbrev main_v282 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_v296 : Ref sig .tc := ⟨.hbm, 353, rfl⟩
abbrev main_v297 : Ref sig .tc := ⟨.hbm, 354, rfl⟩
abbrev main_v298 : Ref sig .tc := ⟨.hbm, 355, rfl⟩
abbrev main_v299 : Ref sig .tc := ⟨.hbm, 356, rfl⟩
abbrev main_v300 : Ref sig .tc := ⟨.hbm, 357, rfl⟩
abbrev main_v301 : Ref sig .tc := ⟨.hbm, 358, rfl⟩
abbrev main_v302 : Ref sig .tc := ⟨.hbm, 359, rfl⟩
abbrev main_v303 : Ref sig .tc := ⟨.hbm, 360, rfl⟩
abbrev main_v304 : Ref sig .tc := ⟨.hbm, 361, rfl⟩
abbrev main_v305 : Ref sig .tc := ⟨.hbm, 362, rfl⟩
abbrev main_cst_42 : Ref sig .tc := ⟨.hbm, 363, rfl⟩
abbrev main_v306 : Ref sig .tc := ⟨.hbm, 364, rfl⟩
abbrev main_v307 : Ref sig .tc := ⟨.hbm, 365, rfl⟩
abbrev main_v308 : Ref sig .tc := ⟨.hbm, 366, rfl⟩
abbrev main_v309 : Ref sig .tc := ⟨.hbm, 367, rfl⟩
abbrev main_v310 : Ref sig .tc := ⟨.hbm, 368, rfl⟩
abbrev main_v311 : Ref sig .tc := ⟨.hbm, 369, rfl⟩
abbrev main_v312 : Ref sig .tc := ⟨.hbm, 370, rfl⟩
abbrev main_v313 : Ref sig .tc := ⟨.hbm, 371, rfl⟩
abbrev main_v314 : Ref sig .tc := ⟨.hbm, 372, rfl⟩
abbrev main_v315 : Ref sig .tc := ⟨.hbm, 373, rfl⟩
abbrev main_v316 : Ref sig .tc := ⟨.hbm, 374, rfl⟩
abbrev main_v317 : Ref sig .tc := ⟨.hbm, 375, rfl⟩
abbrev main_v318 : Ref sig .tc := ⟨.hbm, 376, rfl⟩
abbrev main_v319 : Ref sig .tc := ⟨.hbm, 377, rfl⟩
abbrev main_v320 : Ref sig .tc := ⟨.hbm, 378, rfl⟩
abbrev main_v321 : Ref sig .tc := ⟨.hbm, 379, rfl⟩
abbrev main_v322 : Ref sig .tc := ⟨.hbm, 380, rfl⟩
abbrev main_v323 : Ref sig .tc := ⟨.hbm, 381, rfl⟩
abbrev main_v324 : Ref sig .tc := ⟨.hbm, 382, rfl⟩
abbrev main_v325 : Ref sig .tc := ⟨.hbm, 383, rfl⟩
abbrev main_v326 : Ref sig .tc := ⟨.hbm, 384, rfl⟩
abbrev main_v327 : Ref sig .tc := ⟨.hbm, 385, rfl⟩
abbrev main_v328 : Ref sig .tc := ⟨.hbm, 386, rfl⟩
abbrev main_v329 : Ref sig .tc := ⟨.hbm, 387, rfl⟩
abbrev main_v330 : Ref sig .tc := ⟨.hbm, 388, rfl⟩
abbrev main_v331 : Ref sig .tc := ⟨.hbm, 389, rfl⟩
abbrev main_v332 : Ref sig .tc := ⟨.hbm, 390, rfl⟩
abbrev main_v333 : Ref sig .tc := ⟨.hbm, 391, rfl⟩
abbrev main_v334 : Ref sig .tc := ⟨.hbm, 392, rfl⟩
abbrev main_v335 : Ref sig .tc := ⟨.hbm, 393, rfl⟩
abbrev main_v336 : Ref sig .tc := ⟨.hbm, 394, rfl⟩
abbrev main_v337 : Ref sig .tc := ⟨.hbm, 395, rfl⟩
abbrev main_v338 : Ref sig .tc := ⟨.hbm, 396, rfl⟩
abbrev main_v339 : Ref sig .tc := ⟨.hbm, 397, rfl⟩
abbrev main_v340 : Ref sig .tc := ⟨.hbm, 398, rfl⟩
abbrev main_v341 : Ref sig .tc := ⟨.hbm, 399, rfl⟩
abbrev main_v342 : Ref sig .tc := ⟨.hbm, 400, rfl⟩
abbrev main_v343 : Ref sig .tc := ⟨.hbm, 401, rfl⟩
abbrev main_v344 : Ref sig .tc := ⟨.hbm, 402, rfl⟩
abbrev main_v345 : Ref sig .tc := ⟨.hbm, 403, rfl⟩
abbrev main_v346 : Ref sig .tc := ⟨.hbm, 404, rfl⟩
abbrev main_v347 : Ref sig .tc := ⟨.hbm, 405, rfl⟩
abbrev main_v348 : Ref sig .tc := ⟨.hbm, 406, rfl⟩
abbrev main_v349 : Ref sig .tc := ⟨.hbm, 407, rfl⟩
abbrev main_v350 : Ref sig .tc := ⟨.hbm, 408, rfl⟩
abbrev main_v351 : Ref sig .tc := ⟨.hbm, 409, rfl⟩
abbrev main_v352 : Ref sig .tc := ⟨.hbm, 410, rfl⟩
abbrev main_v353 : Ref sig .tc := ⟨.hbm, 411, rfl⟩
abbrev main_v354 : Ref sig .tc := ⟨.hbm, 412, rfl⟩
abbrev main_v355 : Ref sig .tc := ⟨.hbm, 413, rfl⟩
abbrev main_v356 : Ref sig .tc := ⟨.hbm, 414, rfl⟩
abbrev main_v357 : Ref sig .tc := ⟨.hbm, 415, rfl⟩
abbrev main_v358 : Ref sig .tc := ⟨.hbm, 416, rfl⟩
abbrev main_v359 : Ref sig .tc := ⟨.hbm, 417, rfl⟩
abbrev main_v360 : Ref sig .tc := ⟨.hbm, 418, rfl⟩
abbrev main_v361 : Ref sig .tc := ⟨.hbm, 419, rfl⟩
abbrev main_v362 : Ref sig .tc := ⟨.hbm, 420, rfl⟩
abbrev main_c : Ref sig .tc := ⟨.hbm, 421, rfl⟩
abbrev main_v363 : Ref sig .tc := ⟨.hbm, 422, rfl⟩
abbrev main_v364 : Ref sig .tc := ⟨.hbm, 423, rfl⟩
abbrev main_v365 : Ref sig .tc := ⟨.hbm, 424, rfl⟩
abbrev main_v366 : Ref sig .tc := ⟨.hbm, 425, rfl⟩
abbrev main_v367 : Ref sig .tc := ⟨.hbm, 426, rfl⟩
abbrev main_v368 : Ref sig .tc := ⟨.hbm, 427, rfl⟩
abbrev main_v369 : Ref sig .tc := ⟨.hbm, 428, rfl⟩
abbrev main_v370 : Ref sig .tc := ⟨.hbm, 429, rfl⟩
abbrev main_cst_43 : Ref sig .tc := ⟨.hbm, 430, rfl⟩
abbrev main_v371 : Ref sig .tc := ⟨.hbm, 431, rfl⟩
abbrev main_c_44 : Ref sig .tc := ⟨.hbm, 432, rfl⟩
abbrev main_v372 : Ref sig .tc := ⟨.hbm, 433, rfl⟩
abbrev main_v373 : Ref sig .tc := ⟨.hbm, 434, rfl⟩
abbrev main_c_45 : Ref sig .tc := ⟨.hbm, 435, rfl⟩
abbrev main_v374 : Ref sig .tc := ⟨.hbm, 436, rfl⟩
abbrev main_v375 : Ref sig .tc := ⟨.hbm, 437, rfl⟩
abbrev main_v376 : Ref sig .tc := ⟨.hbm, 438, rfl⟩
abbrev main_v377 : Ref sig .tc := ⟨.hbm, 439, rfl⟩
abbrev main_v378 : Ref sig .tc := ⟨.hbm, 440, rfl⟩
abbrev main_v379 : Ref sig .tc := ⟨.hbm, 441, rfl⟩
abbrev main_v380 : Ref sig .tc := ⟨.hbm, 442, rfl⟩
abbrev main_v381 : Ref sig .tc := ⟨.hbm, 443, rfl⟩
abbrev main_v382 : Ref sig .tc := ⟨.hbm, 444, rfl⟩
abbrev main_v383 : Ref sig .tc := ⟨.hbm, 445, rfl⟩
abbrev main_v384 : Ref sig .tc := ⟨.hbm, 446, rfl⟩
abbrev main_v385 : Ref sig .tc := ⟨.hbm, 447, rfl⟩
abbrev main_call1_v0 : Ref sig .tc := ⟨.hbm, 448, rfl⟩
abbrev main_v386 : Ref sig .tc := ⟨.hbm, 449, rfl⟩
abbrev main_c_46 : Ref sig .tc := ⟨.hbm, 450, rfl⟩
abbrev main_c_47 : Ref sig .tc := ⟨.hbm, 451, rfl⟩
abbrev main_v387_0 : Ref sig .tc := ⟨.hbm, 452, rfl⟩
abbrev main_v387_1 : Ref sig .tc := ⟨.hbm, 453, rfl⟩
abbrev main_v387_2 : Ref sig .tc := ⟨.hbm, 454, rfl⟩
abbrev main_v387_3 : Ref sig .tc := ⟨.hbm, 455, rfl⟩
abbrev main_while0c_c_57 : Ref sig .tc := ⟨.hbm, 456, rfl⟩
abbrev main_while0c_v407 : Ref sig .tc := ⟨.hbm, 457, rfl⟩
abbrev main_while0b_c_57 : Ref sig .tc := ⟨.hbm, 458, rfl⟩
abbrev main_while0b_v407 : Ref sig .tc := ⟨.hbm, 459, rfl⟩
abbrev main_while0b_v408 : Ref sig .tc := ⟨.hbm, 460, rfl⟩
abbrev main_while0b_v409 : Ref sig .tc := ⟨.hbm, 461, rfl⟩
abbrev main_while0b_v410 : Ref sig .tc := ⟨.hbm, 462, rfl⟩
abbrev main_while0b_v411 : Ref sig .tc := ⟨.hbm, 463, rfl⟩
abbrev main_while0b_v412 : Ref sig .tc := ⟨.hbm, 464, rfl⟩
abbrev main_while0b_cst_58 : Ref sig .tc := ⟨.hbm, 465, rfl⟩
abbrev main_while0b_call2_v0 : Ref sig .tc := ⟨.hbm, 466, rfl⟩
abbrev main_while0b_call2_v1 : Ref sig .tc := ⟨.hbm, 467, rfl⟩
abbrev main_while0b_call2_v2 : Ref sig .tc := ⟨.hbm, 468, rfl⟩
abbrev main_while0b_v413 : Ref sig .tc := ⟨.hbm, 469, rfl⟩
abbrev main_while0b_cst_59 : Ref sig .tc := ⟨.hbm, 470, rfl⟩
abbrev main_while0b_v414 : Ref sig .tc := ⟨.hbm, 471, rfl⟩
abbrev main_while0b_v415 : Ref sig .tc := ⟨.hbm, 472, rfl⟩
abbrev main_while0b_cst_60 : Ref sig .tc := ⟨.hbm, 473, rfl⟩
abbrev main_while0b_call3_v0 : Ref sig .tc := ⟨.hbm, 474, rfl⟩
abbrev main_while0b_call3_v1 : Ref sig .tc := ⟨.hbm, 475, rfl⟩
abbrev main_while0b_call3_v2 : Ref sig .tc := ⟨.hbm, 476, rfl⟩
abbrev main_while0b_v416 : Ref sig .tc := ⟨.hbm, 477, rfl⟩
abbrev main_while0b_cst_61 : Ref sig .tc := ⟨.hbm, 478, rfl⟩
abbrev main_while0b_v417 : Ref sig .tc := ⟨.hbm, 479, rfl⟩
abbrev main_while0b_v418 : Ref sig .tc := ⟨.hbm, 480, rfl⟩
abbrev main_while0b_cst_62 : Ref sig .tc := ⟨.hbm, 481, rfl⟩
abbrev main_while0b_call4_v0 : Ref sig .tc := ⟨.hbm, 482, rfl⟩
abbrev main_while0b_call4_v1 : Ref sig .tc := ⟨.hbm, 483, rfl⟩
abbrev main_while0b_call4_v2 : Ref sig .tc := ⟨.hbm, 484, rfl⟩
abbrev main_while0b_v419 : Ref sig .tc := ⟨.hbm, 485, rfl⟩
abbrev main_while0b_cst_63 : Ref sig .tc := ⟨.hbm, 486, rfl⟩
abbrev main_while0b_v420 : Ref sig .tc := ⟨.hbm, 487, rfl⟩
abbrev main_while0b_cst_64 : Ref sig .tc := ⟨.hbm, 488, rfl⟩
abbrev main_while0b_call5_v0 : Ref sig .tc := ⟨.hbm, 489, rfl⟩
abbrev main_while0b_call5_v1 : Ref sig .tc := ⟨.hbm, 490, rfl⟩
abbrev main_while0b_v421 : Ref sig .tc := ⟨.hbm, 491, rfl⟩
abbrev main_while0b_cst_65 : Ref sig .tc := ⟨.hbm, 492, rfl⟩
abbrev main_while0b_v422 : Ref sig .tc := ⟨.hbm, 493, rfl⟩
abbrev main_while0b_v423 : Ref sig .tc := ⟨.hbm, 494, rfl⟩
abbrev main_while0b_v424 : Ref sig .tc := ⟨.hbm, 495, rfl⟩
abbrev main_while0b_v425 : Ref sig .tc := ⟨.hbm, 496, rfl⟩
abbrev main_while0b_v426 : Ref sig .tc := ⟨.hbm, 497, rfl⟩
abbrev main_while0b_v427 : Ref sig .tc := ⟨.hbm, 498, rfl⟩
abbrev main_while0b_v428 : Ref sig .tc := ⟨.hbm, 499, rfl⟩
abbrev main_while0b_v429 : Ref sig .tc := ⟨.hbm, 500, rfl⟩
abbrev main_while0b_v430 : Ref sig .tc := ⟨.hbm, 501, rfl⟩
abbrev main_while0b_v431 : Ref sig .tc := ⟨.hbm, 502, rfl⟩
abbrev main_while0b_v432 : Ref sig .tc := ⟨.hbm, 503, rfl⟩
abbrev main_while0b_v433 : Ref sig .tc := ⟨.hbm, 504, rfl⟩
abbrev main_while0b_v434 : Ref sig .tc := ⟨.hbm, 505, rfl⟩
abbrev main_while0b_call6_v0 : Ref sig .tc := ⟨.hbm, 506, rfl⟩
abbrev main_while0b_call6_v1 : Ref sig .tc := ⟨.hbm, 507, rfl⟩
abbrev main_while0b_v435 : Ref sig .tc := ⟨.hbm, 508, rfl⟩
abbrev main_while0b_v436 : Ref sig .tc := ⟨.hbm, 509, rfl⟩
abbrev main_while0b_v437 : Ref sig .tc := ⟨.hbm, 510, rfl⟩
abbrev main_while0b_v438 : Ref sig .tc := ⟨.hbm, 511, rfl⟩
abbrev main_while0b_v439 : Ref sig .tc := ⟨.hbm, 512, rfl⟩
abbrev main_while0b_v440 : Ref sig .tc := ⟨.hbm, 513, rfl⟩
abbrev main_while0b_v441 : Ref sig .tc := ⟨.hbm, 514, rfl⟩
abbrev main_while0b_v442 : Ref sig .tc := ⟨.hbm, 515, rfl⟩
abbrev main_while0b_v443 : Ref sig .tc := ⟨.hbm, 516, rfl⟩
abbrev main_while0b_call7_v0 : Ref sig .tc := ⟨.hbm, 517, rfl⟩
abbrev main_while0b_call7_v1 : Ref sig .tc := ⟨.hbm, 518, rfl⟩
abbrev main_while0b_v444 : Ref sig .tc := ⟨.hbm, 519, rfl⟩
abbrev main_while0b_c_66 : Ref sig .tc := ⟨.hbm, 520, rfl⟩
abbrev main_while0b_v445 : Ref sig .tc := ⟨.hbm, 521, rfl⟩
abbrev main_v388 : Ref sig .tc := ⟨.hbm, 522, rfl⟩
abbrev main_call8_v0 : Ref sig .tc := ⟨.hbm, 523, rfl⟩
abbrev main_v389 : Ref sig .tc := ⟨.hbm, 524, rfl⟩
abbrev main_cst_48 : Ref sig .tc := ⟨.hbm, 525, rfl⟩
abbrev main_v390 : Ref sig .tc := ⟨.hbm, 526, rfl⟩
abbrev main_c_49 : Ref sig .tc := ⟨.hbm, 527, rfl⟩
abbrev main_v391 : Ref sig .tc := ⟨.hbm, 528, rfl⟩
abbrev main_v392 : Ref sig .tc := ⟨.hbm, 529, rfl⟩
abbrev main_c_50 : Ref sig .tc := ⟨.hbm, 530, rfl⟩
abbrev main_v393 : Ref sig .tc := ⟨.hbm, 531, rfl⟩
abbrev main_v394 : Ref sig .tc := ⟨.hbm, 532, rfl⟩
abbrev main_v395 : Ref sig .tc := ⟨.hbm, 533, rfl⟩
abbrev main_v396 : Ref sig .tc := ⟨.hbm, 534, rfl⟩
abbrev main_v397 : Ref sig .tc := ⟨.hbm, 535, rfl⟩
abbrev main_c_51 : Ref sig .tc := ⟨.hbm, 536, rfl⟩
abbrev main_v398 : Ref sig .tc := ⟨.hbm, 537, rfl⟩
abbrev main_v399 : Ref sig .tc := ⟨.hbm, 538, rfl⟩
abbrev main_c_52 : Ref sig .tc := ⟨.hbm, 539, rfl⟩
abbrev main_v400 : Ref sig .tc := ⟨.hbm, 540, rfl⟩
abbrev main_v401 : Ref sig .tc := ⟨.hbm, 541, rfl⟩
abbrev main_c_53 : Ref sig .tc := ⟨.hbm, 542, rfl⟩
abbrev main_v402 : Ref sig .tc := ⟨.hbm, 543, rfl⟩
abbrev main_v403 : Ref sig .tc := ⟨.hbm, 544, rfl⟩
abbrev main_v404 : Ref sig .tc := ⟨.hbm, 545, rfl⟩
abbrev main_v405 : Ref sig .tc := ⟨.hbm, 546, rfl⟩
abbrev main_v406 : Ref sig .tc := ⟨.hbm, 547, rfl⟩

abbrev nD : Nat := 1
abbrev τ : Topo := Topo.v7x

variable {F : FTy → Type} [FloatOps F]

def κ : String → Option EReal := fun
  | "l_eff" => some ((10⁻¹ : ℝ) : EReal)
  | _ => none

abbrev main_while0_count : Scf.Loop 32 := ⟨0#32, 1536#32, 1#32⟩
-- ==== Proof.Frames.lean ====
/- The frames of the three programs and the one named constant.  The kernel's two frames are the generated ones.  The
   reference's is read off its generated run, which says what its loop leaves and that the arguments are unchanged. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_chain_inputs
public import Idealize.ShloMosaic.Lib.Quiescent

@[expose] public section

set_option maxRecDepth 20000

noncomputable section

namespace Cert.Elastic

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_chain_inputs := fun m ρ _ => Cert.KernelIdeal.Gen.frame m ρ

theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_ri_pre : Cert.quiescent_ReferenceIdeal_pre_chain_inputs := fun m ρ _ => frame_ri m ρ trivial

theorem preserves : Cert.preserves_Kernel_KernelIdeal :=
  IdealRules.named_const.statement Cert.KernelIdeal.κ "l_eff" .f32 0x3DCCCCCD#32 ((10⁻¹ : ℝ) : EReal) rfl

end Cert.Elastic

end
-- ==== Proof.Reals.lean ====
/- The elementary functions at real arguments, and the literals of the two programs as real numbers. -/
module

public import proofs.«01_k».proof.Defs
public import Idealize.ShloMosaic.Lib.IdealHost

@[expose] public section

namespace Cert.Elastic

open Idealize.ShloMosaic

/-- The guard under each square root. -/
noncomputable def tiny : ℝ := (Ideal.ofBits .f32 0x2B8CBCCC#32).toReal

/-- The guard in the bend's denominator. -/
noncomputable def small : ℝ := (Ideal.ofBits .f32 0x322BCC77#32).toReal

theorem tiny_lit : Ideal.ofBits .f32 0x2B8CBCCC#32 = ((tiny : ℝ) : EReal) := by
  unfold tiny
  simp [Ideal.ofBits, Ideal.ieee, -EReal.coe_mul]

theorem tiny_pos : 0 < tiny := by
  unfold tiny
  simp [Ideal.ofBits, Ideal.ieee, -EReal.coe_mul]

theorem small_lit : Ideal.ofBits .f32 0x322BCC77#32 = ((small : ℝ) : EReal) := by
  unfold small
  simp [Ideal.ofBits, Ideal.ieee, -EReal.coe_mul]

theorem small_pos : 0 < small := by
  unfold small
  simp [Ideal.ofBits, Ideal.ieee, -EReal.coe_mul]

theorem zero_lit : Ideal.ofBits .f32 0x00000000#32 = ((0 : ℝ) : EReal) := by
  rw [Ideal.ofBits_zero_f32]; rfl

theorem one_lit : Ideal.ofBits .f32 0x3F800000#32 = ((1 : ℝ) : EReal) := by
  rw [Ideal.ofBits_one_f32]; rfl

theorem half_lit : Ideal.ofBits .f32 0x3F000000#32 = ((1 / 2 : ℝ) : EReal) := by
  simp [Ideal.ofBits, Ideal.ieee, -EReal.coe_mul]; norm_num

theorem two_lit : Ideal.ofBits .f32 0x40000000#32 = ((2 : ℝ) : EReal) := by
  simp [Ideal.ofBits, Ideal.ieee, -EReal.coe_mul]; norm_num

theorem five_lit : Ideal.ofBits .f32 0x40A00000#32 = ((5 : ℝ) : EReal) := by
  simp [Ideal.ofBits, Ideal.ieee, -EReal.coe_mul]; norm_num

theorem ten_lit : Ideal.ofBits .f32 0x41200000#32 = ((10 : ℝ) : EReal) := by
  simp [Ideal.ofBits, Ideal.ieee, -EReal.coe_mul]; norm_num

theorem twenty_lit : Ideal.ofBits .f32 0x41A00000#32 = ((20 : ℝ) : EReal) := by
  simp [Ideal.ofBits, Ideal.ieee, -EReal.coe_mul]; norm_num

theorem inf_lit : Ideal.ofBits .f32 0x7F800000#32 = (⊤ : EReal) := by
  simp [Ideal.ofBits, Ideal.ieee]

theorem div_real (a b : ℝ) (h : b ≠ 0) : Ideal.div (a : EReal) (b : EReal) = ((a / b : ℝ) : EReal) := by
  rw [Ideal.div_coe h, ← EReal.coe_mul, mul_one_div]

theorem sqrt_real (a : ℝ) (h : 0 ≤ a) : Ideal.sqrt (a : EReal) = ((√a : ℝ) : EReal) := by
  rw [Ideal.sqrt_coe, if_neg (not_lt.mpr h)]

theorem log1p_real (a : ℝ) (h : 0 < 1 + a) : Ideal.log1p (a : EReal) = ((Real.log (1 + a) : ℝ) : EReal) := by
  unfold Ideal.log1p
  rw [show (1 : EReal) + (a : EReal) = ((1 + a : ℝ) : EReal) by push_cast; rfl, Ideal.log_coe,
    if_neg (not_le.mpr h)]

theorem max_real (a b : ℝ) : max (a : EReal) (b : EReal) = ((max a b : ℝ) : EReal) :=
  (EReal.coe_strictMono.monotone.map_max).symm

theorem abs_real (a : ℝ) : FloatOps.absf (F := Ideal) (φ := .f32) ((a : ℝ) : EReal) = ((|a| : ℝ) : EReal) := by
  change max (a : EReal) (-(a : EReal)) = _
  rw [← EReal.coe_neg, max_real]; rfl

/-- A sum of reals, as an extended real. -/
theorem sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite extended real is a real. -/
theorem real_of_finite (x : EReal) (h1 : x ≠ ⊤) (h2 : x ≠ ⊥) : x = ((x.toReal : ℝ) : EReal) :=
  (EReal.coe_toReal h1 h2).symm

/-- The softplus function. -/
noncomputable def soft (h : ℝ) : ℝ := max h 0 + Real.log (1 + Real.exp (-|h|))

/-- The sigmoid as half a hyperbolic tangent. -/
noncomputable def sigm (h : ℝ) : ℝ := 1 / 2 * Real.tanh (1 / 2 * h) + 1 / 2

/-- The softplus's derivative in the two forms: the exponential of `h - soft h` is the sigmoid. -/
theorem exp_sub_soft (h : ℝ) : Real.exp (h - soft h) = sigm h := by
  have key : ∀ y : ℝ, 1 / 2 * Real.tanh (1 / 2 * y) + 1 / 2 = Real.exp y / (1 + Real.exp y) := by
    intro y
    have hy : Real.exp y = Real.exp (1 / 2 * y) * Real.exp (1 / 2 * y) := by rw [← Real.exp_add]; ring_nf
    rw [Real.tanh_eq_sinh_div_cosh, Real.sinh_eq, Real.cosh_eq, hy, Real.exp_neg]
    have := Real.exp_pos (1 / 2 * y)
    field_simp
    ring
  have hp : 0 < 1 + Real.exp (-|h|) := by positivity
  unfold soft sigm
  rw [key, Real.exp_sub, Real.exp_add, Real.exp_log hp]
  rcases le_total 0 h with h0 | h0
  · rw [max_eq_left h0, abs_of_nonneg h0, Real.exp_neg]
    have := Real.exp_pos h
    field_simp
    ring
  · rw [max_eq_right h0, abs_of_nonpos h0, Real.exp_zero, neg_neg, one_mul]

end Cert.Elastic
-- ==== Proof.Spring.lean ====
/- One bending spring over the reals: its two edges, its stretch and bend, the network's slope in those two numbers,
   and the pull on its nodes. -/
module

public import proofs.«01_k».proof.Proof.Reals

@[expose] public section

namespace Cert.Elastic

open Idealize.ShloMosaic

/-- The guarded length of a vector. -/
noncomputable def len (a : Fin 3 → ℝ) : ℝ := √(a 0 * a 0 + a 1 * a 1 + a 2 * a 2 + tiny)

/-- The vector product. -/
def cr (a b : Fin 3 → ℝ) : Fin 3 → ℝ :=
  ![a 1 * b 2 - a 2 * b 1, a 2 * b 0 - a 0 * b 2, a 0 * b 1 - a 1 * b 0]

/-- The scalar product. -/
def dot (a b : Fin 3 → ℝ) : ℝ := a 0 * b 0 + a 1 * b 1 + a 2 * b 2

/-- The bend's denominator. -/
noncomputable def den (a b : Fin 3 → ℝ) : ℝ := len a * len b + dot a b + small

/-- The mean relative lengthening of the two edges. -/
noncomputable def stretch (a b : Fin 3 → ℝ) : ℝ :=
  1 / 2 * ((len a - 1 / 10) / (1 / 10) + (len b - 1 / 10) / (1 / 10))

/-- The discrete curvature at the middle node. -/
noncomputable def bend (a b : Fin 3 → ℝ) : ℝ := 2 * len (cr a b) / den a b / (1 / 10)

theorem square_pos (a : Fin 3 → ℝ) : 0 < a 0 * a 0 + a 1 * a 1 + a 2 * a 2 + tiny := by
  have := tiny_pos
  nlinarith [mul_self_nonneg (a 0), mul_self_nonneg (a 1), mul_self_nonneg (a 2)]

theorem len_pos (a : Fin 3 → ℝ) : 0 < len a := Real.sqrt_pos.mpr (square_pos a)

theorem den_pos (a b : Fin 3 → ℝ) : 0 < den a b := by
  have hs := small_pos
  have ht := tiny_pos
  have hA : len a * len a = a 0 * a 0 + a 1 * a 1 + a 2 * a 2 + tiny := Real.mul_self_sqrt (square_pos a).le
  have hB : len b * len b = b 0 * b 0 + b 1 * b 1 + b 2 * b 2 + tiny := Real.mul_self_sqrt (square_pos b).le
  have hl : 0 < len a * len b := mul_pos (len_pos a) (len_pos b)
  have hsq : dot a b ^ 2 ≤ (len a * len b) ^ 2 := by
    have e : (len a * len b) ^ 2 = (len a * len a) * (len b * len b) := by ring
    have c : 0 ≤ (a 1 * b 2 - a 2 * b 1) ^ 2 + (a 2 * b 0 - a 0 * b 2) ^ 2 + (a 0 * b 1 - a 1 * b 0) ^ 2 := by
      positivity
    have d : 0 ≤ (a 0 * a 0 + a 1 * a 1 + a 2 * a 2) * tiny + (b 0 * b 0 + b 1 * b 1 + b 2 * b 2) * tiny
        + tiny * tiny := by
      have := mul_self_nonneg (a 0); have := mul_self_nonneg (a 1); have := mul_self_nonneg (a 2)
      have := mul_self_nonneg (b 0); have := mul_self_nonneg (b 1); have := mul_self_nonneg (b 2)
      positivity
    rw [e, hA, hB]
    unfold dot
    nlinarith
  have := abs_le_of_sq_le_sq' hsq hl.le
  unfold den
  linarith [this.1]

/-- The pull's part along the vector product. -/
noncomputable def turn (g : ℝ) (a b : Fin 3 → ℝ) : ℝ := g * 20 / (len (cr a b) * den a b)

/-- The pull's part from the bend's denominator. -/
noncomputable def shear (g : ℝ) (a b : Fin 3 → ℝ) : ℝ := g * 20 * len (cr a b) / (den a b * den a b)

/-- The energy's slope in the first edge, from its slopes `e` in the stretch and `g` in the bend. -/
noncomputable def pull0 (e g : ℝ) (a b : Fin 3 → ℝ) (c : Fin 3) : ℝ :=
  (e * 5 - shear g a b * len b) * (1 / len a) * a c + turn g a b * cr b (cr a b) c - shear g a b * b c

/-- The energy's slope in the second edge. -/
noncomputable def pull1 (e g : ℝ) (a b : Fin 3 → ℝ) (c : Fin 3) : ℝ :=
  (e * 5 - shear g a b * len a) * (1 / len b) * b c + turn g a b * cr (cr a b) a c - shear g a b * a c

theorem pull0_zero (a b : Fin 3 → ℝ) (c : Fin 3) : pull0 0 0 a b c = 0 := by
  simp [pull0, turn, shear]

theorem pull1_zero (a b : Fin 3 → ℝ) (c : Fin 3) : pull1 0 0 a b c = 0 := by
  simp [pull1, turn, shear]

/-- The energy network's weights. -/
structure Net where
  w1 : Fin 2 → Fin 64 → ℝ
  b1 : Fin 64 → ℝ
  w2 : Fin 64 → Fin 64 → ℝ
  b2 : Fin 64 → ℝ
  w3 : Fin 64 → ℝ

namespace Net

variable (N : Net)

/-- The first layer before its softplus. -/
noncomputable def pre1 (x y : ℝ) (j : Fin 64) : ℝ := x * N.w1 0 j + y * N.w1 1 j + N.b1 j

/-- The second layer before its softplus. -/
noncomputable def pre2 (x y : ℝ) (j : Fin 64) : ℝ := ∑ i, soft (N.pre1 x y i) * N.w2 i j + N.b2 j

/-- The slope of the energy in the second layer. -/
noncomputable def back2 (x y : ℝ) (j : Fin 64) : ℝ := sigm (N.pre2 x y j) * N.w3 j

/-- The slope of the energy in the first layer. -/
noncomputable def back1 (x y : ℝ) (i : Fin 64) : ℝ := sigm (N.pre1 x y i) * ∑ j, N.w2 i j * N.back2 x y j

/-- The slope of the energy in one of the two strains. -/
noncomputable def slope (x y : ℝ) (k : Fin 2) : ℝ := ∑ i, N.w1 k i * N.back1 x y i

end Net

/-- The edge from node `n` to the next. -/
def edge (p : ℕ → Fin 3 → ℝ) (n : ℕ) : Fin 3 → ℝ := fun c => p (n + 1) c - p n c

/-- The spring's slope in its stretch (`0`) and its bend (`1`). -/
noncomputable def pulls (N : Net) (p : ℕ → Fin 3 → ℝ) (n : ℕ) (k : Fin 2) : ℝ :=
  N.slope (stretch (edge p n) (edge p (n + 1))) (bend (edge p n) (edge p (n + 1))) k

/-- The slope in the first edge of spring `n`. -/
noncomputable def g0 (N : Net) (p : ℕ → Fin 3 → ℝ) (n : ℕ) (c : Fin 3) : ℝ :=
  pull0 (pulls N p n 0) (pulls N p n 1) (edge p n) (edge p (n + 1)) c

/-- The slope in the second edge of spring `n`. -/
noncomputable def g1 (N : Net) (p : ℕ → Fin 3 → ℝ) (n : ℕ) (c : Fin 3) : ℝ :=
  pull1 (pulls N p n 0) (pulls N p n 1) (edge p n) (edge p (n + 1)) c

/-- What spring `n` pulls on its node `j`. -/
noncomputable def tug (N : Net) (p : ℕ → Fin 3 → ℝ) (n : ℕ) (j : Fin 3) (c : Fin 3) : ℝ :=
  ![g0 N p n c, g1 N p n c - g0 N p n c, - g1 N p n c] j

/-- The elastic force on node `n`: spring `n - j` pulls on it as its node `j`. -/
noncomputable def force (N : Net) (p : ℕ → Fin 3 → ℝ) (n : ℕ) (c : Fin 3) : ℝ :=
  ∑ j : Fin 3, if j.val ≤ n ∧ n - j.val < 510 then tug N p (n - j.val) j c else 0

end Cert.Elastic
-- ==== Proof.KerEdge.lean ====
/- The kernel's springs, one to a lane: its edges, lengths, vector product and strains, read at one row and one lane. -/
module

public import proofs.«01_k».proof.Defs
public import proofs.«01_k».proof.Proof.Gen.KernelIdeal.Frame
public import proofs.«01_k».proof.Proof.Spring
public import Idealize.ShloMosaic.Lib.Pointwise

@[expose] public section

set_option maxRecDepth 100000
set_option Elab.async false

namespace Cert.Elastic

open Idealize.ShloMosaic
open Cert.KernelIdeal Cert.KernelIdeal.Gen

/-- The named length at the ideal values. -/
theorem named_len :
    Named.named (F := Ideal) Cert.KernelIdeal.κ "l_eff" (φ := .f32) 0x3DCCCCCD#32 = ((1 / 10 : ℝ) : EReal) := by
  rw [one_div]
  exact IdealRules.named_const.ideal_named_scalar _ _ _ _ rfl

variable {x0 : S72x4096.Idx → EReal} {x1 : S64x136.Idx → EReal} {q : Fin 8 → ℕ → Fin 3 → ℝ} {N : Net}

/-- The packed inputs hold real positions `q`, a row's lanes read around, and the network `N`'s weights. -/
structure Lanes (x0 : S72x4096.Idx → EReal) (x1 : S64x136.Idx → EReal) (q : Fin 8 → ℕ → Fin 3 → ℝ) (N : Net) : Prop where
  around : ∀ r n, q r (n % 4096) = q r n
  pos : ∀ (c : Fin 3) (r : Fin 8) (l : Fin 4096), x0 (ix2 ⟨c.val * 8 + r.val, by omega⟩ l) = ((q r l.val c : ℝ) : EReal)
  w2 : ∀ i j : Fin 64, x1 (ix2 i ⟨j.val, by omega⟩) = ((N.w2 i j : ℝ) : EReal)
  w2t : ∀ i j : Fin 64, x1 (ix2 j ⟨64 + i.val, by omega⟩) = ((N.w2 i j : ℝ) : EReal)
  w1 : ∀ (k : Fin 2) (j : Fin 64), x1 (ix2 j ⟨128 + k.val, by omega⟩) = ((N.w1 k j : ℝ) : EReal)
  b1 : ∀ j : Fin 64, x1 (ix2 j ⟨130, by omega⟩) = ((N.b1 j : ℝ) : EReal)
  b2 : ∀ j : Fin 64, x1 (ix2 j ⟨131, by omega⟩) = ((N.b2 j : ℝ) : EReal)
  w3 : ∀ j : Fin 64, x1 (ix2 j ⟨132, by omega⟩) = ((N.w3 j : ℝ) : EReal)

/-- The next lane of a row, around. -/
def next (l : Fin 4096) : Fin 4096 := ⟨(l.val + 1) % 4096, Nat.mod_lt _ (by decide)⟩

/-- The lane `k` before, around. -/
def prev (k : ℕ) (l : Fin 4096) : Fin 4096 := ⟨(l.val + 4096 - k) % 4096, Nat.mod_lt _ (by decide)⟩

theorem roll_next (v : S8x4096.Idx → EReal) (r : Fin 8) (l : Fin 4096) :
    dynamicRotate 1 4095#32 none v rotates_S8x4096_d1 (ix2 r l) = v (ix2 r (next l)) := by
  pointwise
  refine congrArg v (congrArg (ix2 r) (Fin.ext ?_))
  simp only [next, BitVec.toNat_ofNat]
  omega

theorem roll_prev1 (v : S8x4096.Idx → EReal) (r : Fin 8) (l : Fin 4096) :
    dynamicRotate 1 1#32 none v rotates_S8x4096_d1 (ix2 r l) = v (ix2 r (prev 1 l)) := by
  pointwise
  rfl

theorem roll_prev2 (v : S8x4096.Idx → EReal) (r : Fin 8) (l : Fin 4096) :
    dynamicRotate 1 2#32 none v rotates_S8x4096_d1 (ix2 r l) = v (ix2 r (prev 2 l)) := by
  pointwise
  rfl

/-- The first edges, as the kernel forms them from a block of coordinates. -/
theorem edge_read (v : S8x4096.Idx → EReal) (f : Fin 8 → ℕ → ℝ) (ha : ∀ r n, f r (n % 4096) = f r n)
    (hv : ∀ (r : Fin 8) (l : Fin 4096), v (ix2 r l) = ((f r l.val : ℝ) : EReal)) (r : Fin 8) (l : Fin 4096) :
    (subf (F := Ideal) (φ := .f32) (dynamicRotate 1 4095#32 none v rotates_S8x4096_d1) v : S8x4096.Idx → EReal) (ix2 r l) =
      ((f r (l.val + 1) - f r l.val : ℝ) : EReal) := by
  pointwise
  rw [hv, hv, ← EReal.coe_sub, ← ha r (l.val + 1)]
  simp only [show l.val + 4096 - 4095 = l.val + 1 by omega]

namespace Lanes

theorem edge_around (H : Lanes x0 x1 q N) (r : Fin 8) (n : ℕ) : edge (q r) (n % 4096) = edge (q r) n := by
  have h : q r (n % 4096 + 1) = q r (n + 1) := by
    rw [← H.around r (n % 4096 + 1), ← H.around r (n + 1), Nat.mod_add_mod]
  funext c
  simp only [edge, h, H.around]

/-- A coordinate's block as loaded. -/
theorem at_pos (H : Lanes x0 x1 q N) (r : Fin 8) (l : Fin 4096) :
    (View.ld (Val := Elt Ideal) (e' := .f32) x0 r0_0 : S8x4096.Idx → EReal) (ix2 r l) = ((q r l.val 0 : ℝ) : EReal) ∧
    (View.ld (Val := Elt Ideal) (e' := .f32) x0 r0_1 : S8x4096.Idx → EReal) (ix2 r l) = ((q r l.val 1 : ℝ) : EReal) ∧
    (View.ld (Val := Elt Ideal) (e' := .f32) x0 r0_2 : S8x4096.Idx → EReal) (ix2 r l) = ((q r l.val 2 : ℝ) : EReal) := by
  refine ⟨?_, ?_, ?_⟩
  · refine Eq.trans ?_ (H.pos 0 r l)
    pointwise
  · refine Eq.trans ?_ (H.pos 1 r l)
    pointwise
  · refine Eq.trans ?_ (H.pos 2 r l)
    pointwise

theorem at_first (H : Lanes x0 x1 q N) (r : Fin 8) (l : Fin 4096) :
    (k0_pay94 (F := Ideal) x0 x1 : S8x4096.Idx → EReal) (ix2 r l) = ((edge (q r) l.val 0 : ℝ) : EReal) ∧
    (k0_pay95 (F := Ideal) x0 x1 : S8x4096.Idx → EReal) (ix2 r l) = ((edge (q r) l.val 1 : ℝ) : EReal) ∧
    (k0_pay96 (F := Ideal) x0 x1 : S8x4096.Idx → EReal) (ix2 r l) = ((edge (q r) l.val 2 : ℝ) : EReal) := by
  have key : ∀ (c : Fin 3) (v : S8x4096.Idx → EReal), (∀ (r : Fin 8) (l : Fin 4096), v (ix2 r l) = ((q r l.val c : ℝ) : EReal)) →
      (subf (F := Ideal) (φ := .f32)
        (dynamicRotate 1 4095#32 none (shapeCast S8x4096 v shapeCasts_S8x4096_S8x4096) rotates_S8x4096_d1)
        (shapeCast S8x4096 v shapeCasts_S8x4096_S8x4096) : S8x4096.Idx → EReal) (ix2 r l) =
      ((edge (q r) l.val c : ℝ) : EReal) := fun c v hv =>
    edge_read _ (fun r n => q r n c) (fun r n => by rw [H.around]) (fun r l => by pointwise; exact hv r l) r l
  exact ⟨key 0 _ fun r l => (H.at_pos r l).1, key 1 _ fun r l => (H.at_pos r l).2.1, key 2 _ fun r l => (H.at_pos r l).2.2⟩

theorem at_second (H : Lanes x0 x1 q N) (r : Fin 8) (l : Fin 4096) :
    (k0_pay97 (F := Ideal) x0 x1 : S8x4096.Idx → EReal) (ix2 r l) = ((edge (q r) (l.val + 1) 0 : ℝ) : EReal) ∧
    (k0_pay98 (F := Ideal) x0 x1 : S8x4096.Idx → EReal) (ix2 r l) = ((edge (q r) (l.val + 1) 1 : ℝ) : EReal) ∧
    (k0_pay99 (F := Ideal) x0 x1 : S8x4096.Idx → EReal) (ix2 r l) = ((edge (q r) (l.val + 1) 2 : ℝ) : EReal) := by
  have h := H.at_first r (next l)
  rw [show (next l).val = (l.val + 1) % 4096 from rfl, H.edge_around] at h
  exact ⟨(roll_next _ r l).trans h.1, (roll_next _ r l).trans h.2.1, (roll_next _ r l).trans h.2.2⟩

theorem at_lens (H : Lanes x0 x1 q N) (r : Fin 8) (l : Fin 4096) :
    (k0_pay100 (F := Ideal) x0 x1 : S8x4096.Idx → EReal) (ix2 r l) = ((len (edge (q r) l.val) : ℝ) : EReal) ∧
    (k0_pay101 (F := Ideal) x0 x1 : S8x4096.Idx → EReal) (ix2 r l) = ((len (edge (q r) (l.val + 1)) : ℝ) : EReal) := by
  have key : ∀ (a : Fin 3 → ℝ) (u v w : S8x4096.Idx → EReal), u (ix2 r l) = ((a 0 : ℝ) : EReal) ∧
      v (ix2 r l) = ((a 1 : ℝ) : EReal) ∧ w (ix2 r l) = ((a 2 : ℝ) : EReal) →
      (sqrt (F := Ideal) (φ := .f32) (addf (addf (addf (mulf u u) (mulf v v)) (mulf w w))
        (broadcast S8x4096 (Scalar.ofBits (F := Ideal) .f32 0x2B8CBCCC#32))) : S8x4096.Idx → EReal) (ix2 r l) =
      ((len a : ℝ) : EReal) := by
    intro a u v w h
    pointwise
    simp only [h.1, h.2.1, h.2.2, tiny_lit, ← EReal.coe_mul, ← EReal.coe_add]
    exact sqrt_real _ (square_pos a).le
  exact ⟨key _ _ _ _ (H.at_first r l), key _ _ _ _ (H.at_second r l)⟩

theorem at_cross (H : Lanes x0 x1 q N) (r : Fin 8) (l : Fin 4096) :
    (k0_pay105 (F := Ideal) x0 x1 : S8x4096.Idx → EReal) (ix2 r l) =
      ((cr (edge (q r) l.val) (edge (q r) (l.val + 1)) 0 : ℝ) : EReal) ∧
    (k0_pay106 (F := Ideal) x0 x1 : S8x4096.Idx → EReal) (ix2 r l) =
      ((cr (edge (q r) l.val) (edge (q r) (l.val + 1)) 1 : ℝ) : EReal) ∧
    (k0_pay107 (F := Ideal) x0 x1 : S8x4096.Idx → EReal) (ix2 r l) =
      ((cr (edge (q r) l.val) (edge (q r) (l.val + 1)) 2 : ℝ) : EReal) := by
  have h := H.at_first r l
  have h' := H.at_second r l
  refine ⟨?_, ?_, ?_⟩
  · pointwise [k0_pay105, k0_pay14]
    simp only [h, h', ← EReal.coe_mul, ← EReal.coe_sub]
    rfl
  · pointwise [k0_pay106, k0_pay15]
    simp only [h, h', ← EReal.coe_mul, ← EReal.coe_sub]
    rfl
  · pointwise [k0_pay107, k0_pay16]
    simp only [h, h', ← EReal.coe_mul, ← EReal.coe_sub]
    rfl

theorem at_area (H : Lanes x0 x1 q N) (r : Fin 8) (l : Fin 4096) :
    (k0_pay108 (F := Ideal) x0 x1 : S8x4096.Idx → EReal) (ix2 r l) =
      ((len (cr (edge (q r) l.val) (edge (q r) (l.val + 1))) : ℝ) : EReal) := by
  have h := H.at_cross r l
  change (sqrt (F := Ideal) (φ := .f32) (addf (addf (addf (mulf (k0_pay105 x0 x1) (k0_pay105 x0 x1))
    (mulf (k0_pay106 x0 x1) (k0_pay106 x0 x1))) (mulf (k0_pay107 x0 x1) (k0_pay107 x0 x1)))
    (broadcast S8x4096 (Scalar.ofBits (F := Ideal) .f32 0x2B8CBCCC#32))) : S8x4096.Idx → EReal) (ix2 r l) = _
  pointwise
  simp only [h.1, h.2.1, h.2.2, tiny_lit, ← EReal.coe_mul, ← EReal.coe_add]
  exact sqrt_real _ (square_pos _).le

theorem at_den (H : Lanes x0 x1 q N) (r : Fin 8) (l : Fin 4096) :
    (k0_pay109 (F := Ideal) x0 x1 : S8x4096.Idx → EReal) (ix2 r l) =
      ((den (edge (q r) l.val) (edge (q r) (l.val + 1)) : ℝ) : EReal) := by
  have h := H.at_first r l
  have h' := H.at_second r l
  have hl := H.at_lens r l
  pointwise [k0_pay109, k0_pay18]
  simp only [h, h', hl, small_lit, ← EReal.coe_mul, ← EReal.coe_add]
  rfl

theorem at_stretch (H : Lanes x0 x1 q N) (r : Fin 8) (l : Fin 4096) :
    (k0_pay104 (F := Ideal) x0 x1 : S8x4096.Idx → EReal) (ix2 r l) =
      ((stretch (edge (q r) l.val) (edge (q r) (l.val + 1)) : ℝ) : EReal) := by
  have hl := H.at_lens r l
  change (mulf (F := Ideal) (φ := .f32) (broadcast S8x4096 (Scalar.ofBits (F := Ideal) .f32 0x3F000000#32))
    (addf (divf (subf (k0_pay100 x0 x1) (broadcast S8x4096 (Named.named (F := Ideal) Cert.KernelIdeal.κ "l_eff" (φ := .f32) 0x3DCCCCCD#32)))
        (broadcast S8x4096 (Named.named (F := Ideal) Cert.KernelIdeal.κ "l_eff" (φ := .f32) 0x3DCCCCCD#32)))
      (divf (subf (k0_pay101 x0 x1) (broadcast S8x4096 (Named.named (F := Ideal) Cert.KernelIdeal.κ "l_eff" (φ := .f32) 0x3DCCCCCD#32)))
        (broadcast S8x4096 (Named.named (F := Ideal) Cert.KernelIdeal.κ "l_eff" (φ := .f32) 0x3DCCCCCD#32)))) : S8x4096.Idx → EReal)
    (ix2 r l) = _
  pointwise
  simp only [hl, half_lit, named_len, ← EReal.coe_mul, ← EReal.coe_add, ← EReal.coe_sub,
    div_real _ _ (show (1 / 10 : ℝ) ≠ 0 by norm_num)]
  rfl

theorem at_bend (H : Lanes x0 x1 q N) (r : Fin 8) (l : Fin 4096) :
    (k0_pay110 (F := Ideal) x0 x1 : S8x4096.Idx → EReal) (ix2 r l) =
      ((bend (edge (q r) l.val) (edge (q r) (l.val + 1)) : ℝ) : EReal) := by
  have ha := H.at_area r l
  have hd := H.at_den r l
  change (divf (F := Ideal) (φ := .f32) (divf (mulf (broadcast S8x4096 (Scalar.ofBits (F := Ideal) .f32 0x40000000#32))
      (k0_pay108 x0 x1)) (k0_pay109 x0 x1))
    (broadcast S8x4096 (Named.named (F := Ideal) Cert.KernelIdeal.κ "l_eff" (φ := .f32) 0x3DCCCCCD#32)) : S8x4096.Idx → EReal)
    (ix2 r l) = _
  pointwise
  simp only [ha, hd, two_lit, named_len, ← EReal.coe_mul, div_real _ _ (den_pos _ _).ne',
    div_real _ _ (show (1 / 10 : ℝ) ≠ 0 by norm_num)]
  rfl

end Lanes

end Cert.Elastic
-- ==== Proof.KerNet.lean ====
/- The kernel's network, a row of springs at a time: each of the eight rows is one function of its strains, read at one lane. -/
module

public import proofs.«01_k».proof.Proof.KerEdge

@[expose] public section

set_option maxRecDepth 100000
set_option Elab.async false

namespace Cert.Elastic

open Idealize.ShloMosaic
open Cert.KernelIdeal Cert.KernelIdeal.Gen

/-- The vectors of one row of springs in the network's hidden layers. -/
local notation "Hid" => (S64x4096.Idx → EReal)

/-- A row's first layer before its softplus, from its two strains. -/
noncomputable def rowPre (w1 : S64x2.Idx → EReal) (b1 : S64x1.Idx → EReal) (s : S2x4096.Idx → EReal) : Hid :=
  addf (F := Ideal) (φ := .f32)
    (matmul (F := Ideal) (φ₁ := .f32) (φ₂ := .f32) dot_S64x2_S2x4096_S64x4096_1_0_0_1_n_n none w1 s (constant S64x4096 .f32 0x00000000#32))
    (broadcastTo S64x4096 b1 broadcasts_S64x1_S64x4096)

/-- The softplus of a layer. -/
noncomputable def rowSoft (h : Hid) : Hid :=
  addf (F := Ideal) (φ := .f32) (maximumf h (broadcast S64x4096 (Scalar.ofBits (F := Ideal) .f32 0x00000000#32)))
    (log1p (exp (subf (broadcast S64x4096 (Scalar.ofBits (F := Ideal) .f32 0x00000000#32)) (absf h))))

/-- The sigmoid of a layer, by the hyperbolic tangent. -/
noncomputable def rowSigm (h : Hid) : Hid :=
  addf (F := Ideal) (φ := .f32) (mulf (broadcast S64x4096 (Scalar.ofBits (F := Ideal) .f32 0x3F000000#32))
    (tanh (mulf (broadcast S64x4096 (Scalar.ofBits (F := Ideal) .f32 0x3F000000#32)) h)))
    (broadcast S64x4096 (Scalar.ofBits (F := Ideal) .f32 0x3F000000#32))

/-- A row's second layer before its softplus. -/
noncomputable def rowPre2 (w2t : S64x64.Idx → EReal) (b2 : S64x1.Idx → EReal) (h : Hid) : Hid :=
  addf (F := Ideal) (φ := .f32)
    (matmul (F := Ideal) (φ₁ := .f32) (φ₂ := .f32) dot_S64x64_S64x4096_S64x4096_1_0_0_1_n_n none w2t (rowSoft h) (constant S64x4096 .f32 0x00000000#32))
    (broadcastTo S64x4096 b2 broadcasts_S64x1_S64x4096)

/-- A row's slopes in its two strains, from the first layer before its softplus. -/
noncomputable def rowSlope (w2 w2t : S64x64.Idx → EReal) (w1 : S64x2.Idx → EReal) (b2 w3 : S64x1.Idx → EReal) (h : Hid) :
    S2x4096.Idx → EReal :=
  matmul (F := Ideal) (φ₁ := .f32) (φ₂ := .f32) dot_S64x2_S64x4096_S2x4096_0_0_1_1_n_n none w1
    (mulf (rowSigm h)
      (matmul (F := Ideal) (φ₁ := .f32) (φ₂ := .f32) dot_S64x64_S64x4096_S64x4096_1_0_0_1_n_n none w2
        (mulf (rowSigm (rowPre2 w2t b2 h)) (broadcastTo S64x4096 w3 broadcasts_S64x1_S64x4096))
        (constant S64x4096 .f32 0x00000000#32)))
    (constant S2x4096 .f32 0x00000000#32)

theorem rowSoft_at (h : Hid) (j : Fin 64) (l : Fin 4096) (y : ℝ) (hy : h (ix2 j l) = ((y : ℝ) : EReal)) :
    rowSoft h (ix2 j l) = ((soft y : ℝ) : EReal) := by
  unfold rowSoft
  pointwise
  simp only [hy, abs_real, zero_lit, ← EReal.coe_neg, ← EReal.coe_sub, zero_sub, Ideal.exp_coe, max_real]
  rw [log1p_real _ (by positivity), ← EReal.coe_zero, max_real, ← EReal.coe_add]
  rfl

theorem rowSigm_at (h : Hid) (j : Fin 64) (l : Fin 4096) (y : ℝ) (hy : h (ix2 j l) = ((y : ℝ) : EReal)) :
    rowSigm h (ix2 j l) = ((sigm y : ℝ) : EReal) := by
  unfold rowSigm
  pointwise
  simp only [hy, half_lit, ← EReal.coe_mul, Ideal.tanh_coe, ← EReal.coe_add]
  rfl

theorem rowPre_at (w1 : S64x2.Idx → EReal) (b1 : S64x1.Idx → EReal) (s : S2x4096.Idx → EReal) (N : Net) (l : Fin 4096) (x y : ℝ)
    (h1 : ∀ (k : Fin 2) (j : Fin 64), w1 (ix2 j k) = ((N.w1 k j : ℝ) : EReal))
    (hb : ∀ j : Fin 64, b1 (ix2 j 0) = ((N.b1 j : ℝ) : EReal))
    (hx : s (ix2 0 l) = ((x : ℝ) : EReal)) (hy : s (ix2 1 l) = ((y : ℝ) : EReal)) (j : Fin 64) :
    rowPre w1 b1 s (ix2 j l) = ((N.pre1 x y j : ℝ) : EReal) := by
  unfold rowPre
  pointwise
  simp only [Fin.sum_univ_two, hx, hy, h1, hb, ← EReal.coe_mul, ← EReal.coe_add]
  unfold Net.pre1
  rw [mul_comm x, mul_comm y]

theorem rowPre2_at (w2t : S64x64.Idx → EReal) (b2 : S64x1.Idx → EReal) (h : Hid) (N : Net) (l : Fin 4096) (x y : ℝ)
    (h2 : ∀ i j : Fin 64, w2t (ix2 j i) = ((N.w2 i j : ℝ) : EReal))
    (hb : ∀ j : Fin 64, b2 (ix2 j 0) = ((N.b2 j : ℝ) : EReal))
    (hh : ∀ j : Fin 64, h (ix2 j l) = ((N.pre1 x y j : ℝ) : EReal)) (j : Fin 64) :
    rowPre2 w2t b2 h (ix2 j l) = ((N.pre2 x y j : ℝ) : EReal) := by
  unfold rowPre2
  pointwise
  simp only [fun i => rowSoft_at h i l _ (hh i), h2, hb, ← EReal.coe_mul, sum_real, ← EReal.coe_add]
  unfold Net.pre2
  simp only [mul_comm]

theorem rowSlope_at (w2 w2t : S64x64.Idx → EReal) (w1 : S64x2.Idx → EReal) (b2 w3 : S64x1.Idx → EReal) (h : Hid) (N : Net)
    (l : Fin 4096) (x y : ℝ)
    (h2 : ∀ i j : Fin 64, w2 (ix2 i j) = ((N.w2 i j : ℝ) : EReal))
    (h2t : ∀ i j : Fin 64, w2t (ix2 j i) = ((N.w2 i j : ℝ) : EReal))
    (h1 : ∀ (k : Fin 2) (j : Fin 64), w1 (ix2 j k) = ((N.w1 k j : ℝ) : EReal))
    (hb : ∀ j : Fin 64, b2 (ix2 j 0) = ((N.b2 j : ℝ) : EReal))
    (h3 : ∀ j : Fin 64, w3 (ix2 j 0) = ((N.w3 j : ℝ) : EReal))
    (hh : ∀ j : Fin 64, h (ix2 j l) = ((N.pre1 x y j : ℝ) : EReal)) (k : Fin 2) :
    rowSlope w2 w2t w1 b2 w3 h (ix2 k l) = ((N.slope x y k : ℝ) : EReal) := by
  unfold rowSlope
  pointwise
  simp only [fun i => rowSigm_at h i l _ (hh i), fun i => rowSigm_at _ i l _ (rowPre2_at w2t b2 h N l x y h2t hb hh i), h1, h2, h3,
    ← EReal.coe_mul, sum_real]
  rfl

end Cert.Elastic
-- ==== Proof.KerRows.lean ====
/- The kernel's eight rows of springs: each is the one row function of its strains; their slopes stacked, masked and scaled. -/
module

public import proofs.«01_k».proof.Proof.KerNet

@[expose] public section

set_option maxRecDepth 100000
set_option Elab.async false

namespace Cert.Elastic

open Idealize.ShloMosaic
open Cert.KernelIdeal Cert.KernelIdeal.Gen

/-- The slopes of one row of springs, cut at `o` out of the kernel's strains. -/
noncomputable def rowOf (x0 : S72x4096.Idx → EReal) (x1 : S64x136.Idx → EReal) (o : Fin 2 → ℕ) (h : S8x4096.Slices o S1x4096) :
    S2x4096.Idx → EReal :=
  rowSlope (k0_pay112 (F := Ideal) x0 x1) (k0_pay113 (F := Ideal) x0 x1) (k0_pay114 (F := Ideal) x0 x1) (k0_pay116 (F := Ideal) x0 x1) (k0_pay117 (F := Ideal) x0 x1)
    (rowPre (k0_pay114 (F := Ideal) x0 x1) (k0_pay115 (F := Ideal) x0 x1)
      (concatenate S2x4096 0 [⟨S1x4096, extractStridedSlice S1x4096 o (k0_pay104 (F := Ideal) x0 x1) h⟩,
        ⟨S1x4096, extractStridedSlice S1x4096 o (k0_pay110 (F := Ideal) x0 x1) h⟩] concatenates_S1x4096_S1x4096_S2x4096_d0))

/-- The eight rows' slopes in the stretch, one under the other. -/
noncomputable def stackE (x0 : S72x4096.Idx → EReal) (x1 : S64x136.Idx → EReal) : S8x4096.Idx → EReal :=
  concatenate S8x4096 0 [
    ⟨S1x4096, extractStridedSlice S1x4096 ![0, 0] (rowOf x0 x1 ![0, 0] slices_S8x4096_o0_0_S1x4096) slices_S2x4096_o0_0_S1x4096⟩,
    ⟨S1x4096, extractStridedSlice S1x4096 ![0, 0] (rowOf x0 x1 ![1, 0] slices_S8x4096_o1_0_S1x4096) slices_S2x4096_o0_0_S1x4096⟩,
    ⟨S1x4096, extractStridedSlice S1x4096 ![0, 0] (rowOf x0 x1 ![2, 0] slices_S8x4096_o2_0_S1x4096) slices_S2x4096_o0_0_S1x4096⟩,
    ⟨S1x4096, extractStridedSlice S1x4096 ![0, 0] (rowOf x0 x1 ![3, 0] slices_S8x4096_o3_0_S1x4096) slices_S2x4096_o0_0_S1x4096⟩,
    ⟨S1x4096, extractStridedSlice S1x4096 ![0, 0] (rowOf x0 x1 ![4, 0] slices_S8x4096_o4_0_S1x4096) slices_S2x4096_o0_0_S1x4096⟩,
    ⟨S1x4096, extractStridedSlice S1x4096 ![0, 0] (rowOf x0 x1 ![5, 0] slices_S8x4096_o5_0_S1x4096) slices_S2x4096_o0_0_S1x4096⟩,
    ⟨S1x4096, extractStridedSlice S1x4096 ![0, 0] (rowOf x0 x1 ![6, 0] slices_S8x4096_o6_0_S1x4096) slices_S2x4096_o0_0_S1x4096⟩,
    ⟨S1x4096, extractStridedSlice S1x4096 ![0, 0] (rowOf x0 x1 ![7, 0] slices_S8x4096_o7_0_S1x4096) slices_S2x4096_o0_0_S1x4096⟩]
    concatenates_S1x4096_S1x4096_S1x4096_S1x4096_S1x4096_S1x4096_S1x4096_S1x4096_S8x4096_d0

/-- The eight rows' slopes in the bend, one under the other. -/
noncomputable def stackG (x0 : S72x4096.Idx → EReal) (x1 : S64x136.Idx → EReal) : S8x4096.Idx → EReal :=
  concatenate S8x4096 0 [
    ⟨S1x4096, extractStridedSlice S1x4096 ![1, 0] (rowOf x0 x1 ![0, 0] slices_S8x4096_o0_0_S1x4096) slices_S2x4096_o1_0_S1x4096⟩,
    ⟨S1x4096, extractStridedSlice S1x4096 ![1, 0] (rowOf x0 x1 ![1, 0] slices_S8x4096_o1_0_S1x4096) slices_S2x4096_o1_0_S1x4096⟩,
    ⟨S1x4096, extractStridedSlice S1x4096 ![1, 0] (rowOf x0 x1 ![2, 0] slices_S8x4096_o2_0_S1x4096) slices_S2x4096_o1_0_S1x4096⟩,
    ⟨S1x4096, extractStridedSlice S1x4096 ![1, 0] (rowOf x0 x1 ![3, 0] slices_S8x4096_o3_0_S1x4096) slices_S2x4096_o1_0_S1x4096⟩,
    ⟨S1x4096, extractStridedSlice S1x4096 ![1, 0] (rowOf x0 x1 ![4, 0] slices_S8x4096_o4_0_S1x4096) slices_S2x4096_o1_0_S1x4096⟩,
    ⟨S1x4096, extractStridedSlice S1x4096 ![1, 0] (rowOf x0 x1 ![5, 0] slices_S8x4096_o5_0_S1x4096) slices_S2x4096_o1_0_S1x4096⟩,
    ⟨S1x4096, extractStridedSlice S1x4096 ![1, 0] (rowOf x0 x1 ![6, 0] slices_S8x4096_o6_0_S1x4096) slices_S2x4096_o1_0_S1x4096⟩,
    ⟨S1x4096, extractStridedSlice S1x4096 ![1, 0] (rowOf x0 x1 ![7, 0] slices_S8x4096_o7_0_S1x4096) slices_S2x4096_o1_0_S1x4096⟩]
    concatenates_S1x4096_S1x4096_S1x4096_S1x4096_S1x4096_S1x4096_S1x4096_S1x4096_S8x4096_d0

/-- The kernel's stretch pulls: the stacked slopes where a spring starts, nothing elsewhere, times five. -/
theorem stretch_pulls (x0 : S72x4096.Idx → EReal) (x1 : S64x136.Idx → EReal) :
    (k0_pay144 (F := Ideal) x0 x1 : S8x4096.Idx → EReal) =
      mulf (F := Ideal) (φ := .f32) (select k0_pay68 (stackE x0 x1) (broadcast S8x4096 (Scalar.ofBits (F := Ideal) .f32 0x00000000#32)))
        (broadcast S8x4096 (Scalar.ofBits (F := Ideal) .f32 0x40A00000#32)) := rfl

/-- The kernel's bend pulls, times twenty. -/
noncomputable def bendPulls (x0 : S72x4096.Idx → EReal) (x1 : S64x136.Idx → EReal) : S8x4096.Idx → EReal :=
  mulf (F := Ideal) (φ := .f32) (select k0_pay68 (stackG x0 x1) (broadcast S8x4096 (Scalar.ofBits (F := Ideal) .f32 0x00000000#32)))
    (broadcast S8x4096 (Scalar.ofBits (F := Ideal) .f32 0x41A00000#32))

theorem turn_pulls (x0 : S72x4096.Idx → EReal) (x1 : S64x136.Idx → EReal) :
    (k0_pay145 (F := Ideal) x0 x1 : S8x4096.Idx → EReal) =
      divf (F := Ideal) (φ := .f32) (bendPulls x0 x1) (mulf (k0_pay108 (F := Ideal) x0 x1) (k0_pay109 (F := Ideal) x0 x1)) := rfl

theorem shear_pulls (x0 : S72x4096.Idx → EReal) (x1 : S64x136.Idx → EReal) :
    (k0_pay146 (F := Ideal) x0 x1 : S8x4096.Idx → EReal) =
      mulf (F := Ideal) (φ := .f32) (bendPulls x0 x1) (k0_pay108 (F := Ideal) x0 x1) := rfl

namespace Lanes

variable {x0 : S72x4096.Idx → EReal} {x1 : S64x136.Idx → EReal} {q : Fin 8 → ℕ → Fin 3 → ℝ} {N : Net}

theorem at_w2 (H : Lanes x0 x1 q N) (i j : Fin 64) :
    (k0_pay112 (F := Ideal) x0 x1 : S64x64.Idx → EReal) (ix2 i j) = ((N.w2 i j : ℝ) : EReal) := by
  refine Eq.trans ?_ (H.w2 i j)
  pointwise [k0_pay112, k0_pay21, k0_pay20]

theorem at_w2t (H : Lanes x0 x1 q N) (i j : Fin 64) :
    (k0_pay113 (F := Ideal) x0 x1 : S64x64.Idx → EReal) (ix2 j i) = ((N.w2 i j : ℝ) : EReal) := by
  refine Eq.trans ?_ (H.w2t i j)
  pointwise [k0_pay113, k0_pay22, k0_pay20]

theorem at_w1 (H : Lanes x0 x1 q N) (k : Fin 2) (j : Fin 64) :
    (k0_pay114 (F := Ideal) x0 x1 : S64x2.Idx → EReal) (ix2 j k) = ((N.w1 k j : ℝ) : EReal) := by
  refine Eq.trans ?_ (H.w1 k j)
  pointwise [k0_pay114, k0_pay23, k0_pay20]

theorem at_b1 (H : Lanes x0 x1 q N) (j : Fin 64) :
    (k0_pay115 (F := Ideal) x0 x1 : S64x1.Idx → EReal) (ix2 j 0) = ((N.b1 j : ℝ) : EReal) := by
  refine Eq.trans ?_ (H.b1 j)
  pointwise [k0_pay115, k0_pay24, k0_pay20]

theorem at_b2 (H : Lanes x0 x1 q N) (j : Fin 64) :
    (k0_pay116 (F := Ideal) x0 x1 : S64x1.Idx → EReal) (ix2 j 0) = ((N.b2 j : ℝ) : EReal) := by
  refine Eq.trans ?_ (H.b2 j)
  pointwise [k0_pay116, k0_pay25, k0_pay20]

theorem at_w3 (H : Lanes x0 x1 q N) (j : Fin 64) :
    (k0_pay117 (F := Ideal) x0 x1 : S64x1.Idx → EReal) (ix2 j 0) = ((N.w3 j : ℝ) : EReal) := by
  refine Eq.trans ?_ (H.w3 j)
  pointwise [k0_pay117, k0_pay26, k0_pay20]

theorem at_row (H : Lanes x0 x1 q N) (r : Fin 8) (h : S8x4096.Slices ![r.val, 0] S1x4096) (k : Fin 2) (l : Fin 4096) :
    rowOf x0 x1 ![r.val, 0] h (ix2 k l) = ((pulls N (q r) l.val k : ℝ) : EReal) := by
  refine rowSlope_at _ _ _ _ _ _ N l _ _ H.at_w2 H.at_w2t H.at_w1 H.at_b2 H.at_w3 ?_ k
  refine rowPre_at _ _ _ N l _ _ H.at_w1 H.at_b1 ?_ ?_
  · refine Eq.trans ?_ (H.at_stretch r l)
    pointwise
  · refine Eq.trans ?_ (H.at_bend r l)
    pointwise

theorem at_row_of (H : Lanes x0 x1 q N) (r : Fin 8) (o : Fin 2 → ℕ) (ho : o = ![r.val, 0]) (h : S8x4096.Slices o S1x4096) (k : Fin 2)
    (l : Fin 4096) : rowOf x0 x1 o h (ix2 k l) = ((pulls N (q r) l.val k : ℝ) : EReal) := by
  subst ho
  exact H.at_row r h k l

/-- The stacked slopes. -/
theorem at_stacks (H : Lanes x0 x1 q N) (r : Fin 8) (l : Fin 4096) :
    stackE x0 x1 (ix2 r l) = ((pulls N (q r) l.val 0 : ℝ) : EReal) ∧
      stackG x0 x1 (ix2 r l) = ((pulls N (q r) l.val 1 : ℝ) : EReal) := by
  unfold stackE stackG
  constructor
  · fin_cases r <;> (pointwise; exact H.at_row_of _ _ (by rfl) _ _ _)
  · fin_cases r <;> (pointwise; exact H.at_row_of _ _ (by rfl) _ _ _)

/-- The mask is on where a spring starts: at a lane not among a batch's last two. -/
theorem mask_at (r : Fin 8) (l : Fin 4096) :
    (k0_pay68 : S8x4096.Idx → BitVec 1) (ix2 r l) = BitVec.ofBool (decide (l.val % 512 < 510)) := by
  unfold k0_pay68
  pointwise
  have h : IntOp.andi (BitVec.ofNat 32 l.val) 511#32 = BitVec.ofNat 32 (l.val % 512) := by
    apply BitVec.eq_of_toNat_eq
    have hl := l.isLt
    have e : l.val % 2 ^ 32 = l.val := Nat.mod_eq_of_lt (by omega)
    have e' : l.val % 512 % 2 ^ 32 = l.val % 512 := Nat.mod_eq_of_lt (by omega)
    change ((BitVec.ofNat 32 l.val) &&& 511#32).toNat = _
    rw [BitVec.toNat_and, BitVec.toNat_ofNat, BitVec.toNat_ofNat, BitVec.toNat_ofNat, e, e']
    exact Nat.and_two_pow_sub_one_eq_mod l.val 9
  rw [h]
  exact WordCmp.cmpi_slt_ofNat (by omega) (by omega)

/-- The slopes kept where a spring starts. -/
noncomputable def kept (N : Net) (p : ℕ → Fin 3 → ℝ) (n : ℕ) (k : Fin 2) : ℝ := if n % 512 < 510 then pulls N p n k else 0

theorem at_stretch_pulls (H : Lanes x0 x1 q N) (r : Fin 8) (l : Fin 4096) :
    (k0_pay144 (F := Ideal) x0 x1 : S8x4096.Idx → EReal) (ix2 r l) = ((kept N (q r) l.val 0 * 5 : ℝ) : EReal) := by
  rw [stretch_pulls]
  pointwise
  rw [mask_at, (H.at_stacks r l).1, five_lit, EReal.coe_mul]
  unfold kept
  by_cases h : l.val % 512 < 510 <;> simp [h, Scalar.select]

theorem at_bend_pulls (H : Lanes x0 x1 q N) (r : Fin 8) (l : Fin 4096) :
    bendPulls x0 x1 (ix2 r l) = ((kept N (q r) l.val 1 * 20 : ℝ) : EReal) := by
  unfold bendPulls
  pointwise
  rw [mask_at, (H.at_stacks r l).2, twenty_lit, EReal.coe_mul]
  unfold kept
  by_cases h : l.val % 512 < 510 <;> simp [h, Scalar.select]

end Lanes

end Cert.Elastic
-- ==== Proof.KerOut.lean ====
/- What the kernel stores: the pulls of the springs gathered lane by lane, the external force and the damping, over the mass. -/
module

public import proofs.«01_k».proof.Proof.KerRows
public import Idealize.ShloMosaic.Lib.Pipeline.ValueKit.Tiles

@[expose] public section

set_option maxRecDepth 100000
set_option Elab.async false

namespace Cert.Elastic

open Idealize.ShloMosaic
open Cert.KernelIdeal Cert.KernelIdeal.Gen

/-- The kernel's block vectors. -/
local notation "Blk" => (S8x4096.Idx → EReal)

/-- A component of a pull, from its factors and the vectors whose product it takes. -/
noncomputable def pullOf (z t s k i b u v w x o : Blk) : Blk :=
  subf (F := Ideal) (φ := .f32) (addf (mulf (mulf (subf z (mulf s k)) i) b) (mulf t (subf (mulf u v) (mulf w x)))) (mulf s o)

/-- The pulls of the springs gathered: a lane has its own spring's first edge, and the two springs' before it. -/
noncomputable def gather3 (g h : Blk) : Blk :=
  addf (F := Ideal) (φ := .f32) (addf g (dynamicRotate 1 1#32 none (subf (F := Ideal) (φ := .f32) h g) rotates_S8x4096_d1))
    (dynamicRotate 1 2#32 none (subf (F := Ideal) (φ := .f32) (broadcast S8x4096 (Scalar.ofBits (F := Ideal) .f32 0x00000000#32)) h)
      rotates_S8x4096_d1)

/-- The accelerations of one component, from its gathered pulls, external force and velocity. -/
noncomputable def accel (s i : EReal) (f e v : Blk) : Blk :=
  mulf (F := Ideal) (φ := .f32) (subf (addf f (shapeCast S8x4096 e shapeCasts_S8x4096_S8x4096))
    (mulf (broadcast S8x4096 s) (shapeCast S8x4096 v shapeCasts_S8x4096_S8x4096)))
    (broadcast S8x4096 i)

variable (x0 : S72x4096.Idx → EReal) (x1 : S64x136.Idx → EReal)

/-- The part of the bend's pull along the other edge. -/
noncomputable def shearV : Blk := divf (F := Ideal) (φ := .f32) (k0_pay146 (F := Ideal) x0 x1) (k0_pay147 (F := Ideal) x0 x1)

noncomputable def firstPull (b u v w x o : Blk) : Blk :=
  pullOf (k0_pay144 (F := Ideal) x0 x1) (k0_pay145 (F := Ideal) x0 x1) (shearV x0 x1) (k0_pay101 (F := Ideal) x0 x1)
    (k0_pay142 (F := Ideal) x0 x1) b u v w x o

noncomputable def secondPull (b u v w x o : Blk) : Blk :=
  pullOf (k0_pay144 (F := Ideal) x0 x1) (k0_pay145 (F := Ideal) x0 x1) (shearV x0 x1) (k0_pay100 (F := Ideal) x0 x1)
    (k0_pay143 (F := Ideal) x0 x1) b u v w x o

/-- The pulls of one component of all springs on their first edge, -/
noncomputable def G0 (c : Fin 3) : Blk :=
  ![firstPull x0 x1 (k0_pay94 (F := Ideal) x0 x1) (k0_pay98 (F := Ideal) x0 x1) (k0_pay107 (F := Ideal) x0 x1)
      (k0_pay99 (F := Ideal) x0 x1) (k0_pay106 (F := Ideal) x0 x1) (k0_pay97 (F := Ideal) x0 x1),
    firstPull x0 x1 (k0_pay95 (F := Ideal) x0 x1) (k0_pay99 (F := Ideal) x0 x1) (k0_pay105 (F := Ideal) x0 x1)
      (k0_pay97 (F := Ideal) x0 x1) (k0_pay107 (F := Ideal) x0 x1) (k0_pay98 (F := Ideal) x0 x1),
    firstPull x0 x1 (k0_pay96 (F := Ideal) x0 x1) (k0_pay97 (F := Ideal) x0 x1) (k0_pay106 (F := Ideal) x0 x1)
      (k0_pay98 (F := Ideal) x0 x1) (k0_pay105 (F := Ideal) x0 x1) (k0_pay99 (F := Ideal) x0 x1)] c

/-- and on their second. -/
noncomputable def G1 (c : Fin 3) : Blk :=
  ![secondPull x0 x1 (k0_pay97 (F := Ideal) x0 x1) (k0_pay106 (F := Ideal) x0 x1) (k0_pay96 (F := Ideal) x0 x1)
      (k0_pay107 (F := Ideal) x0 x1) (k0_pay95 (F := Ideal) x0 x1) (k0_pay94 (F := Ideal) x0 x1),
    secondPull x0 x1 (k0_pay98 (F := Ideal) x0 x1) (k0_pay107 (F := Ideal) x0 x1) (k0_pay94 (F := Ideal) x0 x1)
      (k0_pay105 (F := Ideal) x0 x1) (k0_pay96 (F := Ideal) x0 x1) (k0_pay95 (F := Ideal) x0 x1),
    secondPull x0 x1 (k0_pay99 (F := Ideal) x0 x1) (k0_pay105 (F := Ideal) x0 x1) (k0_pay95 (F := Ideal) x0 x1)
      (k0_pay106 (F := Ideal) x0 x1) (k0_pay94 (F := Ideal) x0 x1) (k0_pay96 (F := Ideal) x0 x1)] c

/-- The kernel's three stores are the three components' accelerations. -/
theorem out_pieces : (out0_2 (F := Ideal) x0 x1 : S24x4096.Idx → EReal) =
    View.canon (Val := Elt Ideal) (e := .f32)
      [⟨r0_12, accel (k0_pay87 (F := Ideal) (k0_pay111 (F := Ideal) x0 x1)) (k0_pay88 (F := Ideal) (k0_pay111 (F := Ideal) x0 x1))
          (gather3 (G0 x0 x1 2) (G1 x0 x1 2)) (View.ld (Val := Elt Ideal) (e' := .f32) x0 r0_9)
          (View.ld (Val := Elt Ideal) (e' := .f32) x0 r0_6)⟩,
       ⟨r0_11, accel (k0_pay87 (F := Ideal) (k0_pay111 (F := Ideal) x0 x1)) (k0_pay88 (F := Ideal) (k0_pay111 (F := Ideal) x0 x1))
          (gather3 (G0 x0 x1 1) (G1 x0 x1 1)) (View.ld (Val := Elt Ideal) (e' := .f32) x0 r0_8)
          (View.ld (Val := Elt Ideal) (e' := .f32) x0 r0_5)⟩,
       ⟨r0_10, accel (k0_pay87 (F := Ideal) (k0_pay111 (F := Ideal) x0 x1)) (k0_pay88 (F := Ideal) (k0_pay111 (F := Ideal) x0 x1))
          (gather3 (G0 x0 x1 0) (G1 x0 x1 0)) (View.ld (Val := Elt Ideal) (e' := .f32) x0 r0_7)
          (View.ld (Val := Elt Ideal) (e' := .f32) x0 r0_4)⟩] := rfl

/-- Three blocks stored one under the other, read back. -/
theorem three_blocks (p0 p1 p2 : Blk) (c : Fin 3) (r : Fin 8) (l : Fin 4096) :
    (View.canon (Val := Elt Ideal) (e := .f32) [⟨r0_12, p2⟩, ⟨r0_11, p1⟩, ⟨r0_10, p0⟩] : S24x4096.Idx → EReal)
      (ix2 ⟨c.val * 8 + r.val, by omega⟩ l) = (![p0, p1, p2] c : Blk) (ix2 r l) := by
  refine View.canon_eq_of_allAt _ _ _ (cover0_2 (F := Ideal) p2 p1 p0 _) ?_
  have key : ∀ (k : Fin 3) (off : Fin 2 → ℕ) (w : Blk), off = ![k.val * 8, 0] → w = (![p0, p1, p2] k : Blk) →
      View.TileAt (Val := Elt Ideal) (S := S24x4096) (e := .f32) (ix2 ⟨c.val * 8 + r.val, by omega⟩ l) off ![8, 4096] w
        ((![p0, p1, p2] c : Blk) (ix2 r l)) := by
    rintro k off w rfl rfl x hx
    have h0 : c.val * 8 + r.val = k.val * 8 + (x 0).val := hx 0
    have h1 : l.val = 0 + (x 1).val := hx 1
    have hx0 : (x 0).val < 8 := (x 0).isLt
    have hk : k = c := Fin.ext (by omega)
    subst hk
    refine congrArg _ (funext fun a => Fin.ext ?_)
    fin_cases a
    · change (x 0).val = r.val
      omega
    · change (x 1).val = l.val
      omega
  refine View.allAt_cons_unit _ _ _ _ _ (key 2 _ _ (by rfl) (by rfl)) ?_
  refine View.allAt_cons_unit _ _ _ _ _ (key 1 _ _ (by rfl) (by rfl)) ?_
  exact View.allAt_cons_unit _ _ _ _ _ (key 0 _ _ (by rfl) (by rfl)) (View.allAt_nil _ _)

/-- The pull on the first edge of the spring at lane `n` of a row, nothing where no spring starts. -/
noncomputable def m0 (N : Net) (p : ℕ → Fin 3 → ℝ) (n : ℕ) (c : Fin 3) : ℝ :=
  pull0 (Lanes.kept N p n 0) (Lanes.kept N p n 1) (edge p n) (edge p (n + 1)) c

/-- The pull on its second edge. -/
noncomputable def m1 (N : Net) (p : ℕ → Fin 3 → ℝ) (n : ℕ) (c : Fin 3) : ℝ :=
  pull1 (Lanes.kept N p n 0) (Lanes.kept N p n 1) (edge p n) (edge p (n + 1)) c

theorem m0_off (N : Net) (p : ℕ → Fin 3 → ℝ) (n : ℕ) (c : Fin 3) (h : ¬ n % 512 < 510) : m0 N p n c = 0 := by
  simp only [m0, Lanes.kept, if_neg h, pull0_zero]

theorem m1_off (N : Net) (p : ℕ → Fin 3 → ℝ) (n : ℕ) (c : Fin 3) (h : ¬ n % 512 < 510) : m1 N p n c = 0 := by
  simp only [m1, Lanes.kept, if_neg h, pull1_zero]

/-- A row's spring is its batch's spring. -/
theorem m_on (N : Net) (q p : ℕ → Fin 3 → ℝ) (b : ℕ) (h : ∀ k, k < 512 → q (512 * b + k) = p k) (n : ℕ) (hn : n < 510)
    (c : Fin 3) : m0 N q (512 * b + n) c = g0 N p n c ∧ m1 N q (512 * b + n) c = g1 N p n c := by
  have e0 : edge q (512 * b + n) = edge p n := by
    funext k
    simp only [edge, h n (by omega), ← h (n + 1) (by omega), Nat.add_assoc]
  have e1 : edge q (512 * b + n + 1) = edge p (n + 1) := by
    funext k
    simp only [edge, ← h (n + 1) (by omega), ← h (n + 1 + 1) (by omega), Nat.add_assoc]
  have hk : ∀ k, Lanes.kept N q (512 * b + n) k = pulls N p n k := by
    intro k
    rw [Lanes.kept, if_pos (by omega)]
    simp only [pulls, e0, e1]
  simp only [m0, m1, g0, g1, hk, e0, e1, and_self]

/-- The pulls gathered at a lane are the force on its node. -/
theorem gathered (N : Net) (q p : ℕ → Fin 3 → ℝ) (b : Fin 8) (h : ∀ k, k < 512 → q (512 * b.val + k) = p k) (n : ℕ) (hn : n < 512)
    (c : Fin 3) (l : Fin 4096) (hl : l.val = 512 * b.val + n) :
    m0 N q l.val c + (m1 N q (prev 1 l).val c - m0 N q (prev 1 l).val c) + (0 - m1 N q (prev 2 l).val c) = force N p n c := by
  have hb := b.isLt
  have a0 : m0 N q l.val c = if n < 510 then g0 N p n c else 0 := by
    split
    · rw [hl, (m_on N q p b h n (by omega) c).1]
    · exact m0_off _ _ _ _ (by omega)
  have a1 : m1 N q (prev 1 l).val c - m0 N q (prev 1 l).val c =
      if 1 ≤ n ∧ n - 1 < 510 then g1 N p (n - 1) c - g0 N p (n - 1) c else 0 := by
    have hv : (prev 1 l).val = (l.val + 4096 - 1) % 4096 := rfl
    split
    · have e : (prev 1 l).val = 512 * b.val + (n - 1) := by omega
      rw [e, (m_on N q p b h (n - 1) (by omega) c).1, (m_on N q p b h (n - 1) (by omega) c).2]
    · rw [m0_off _ _ _ _ (by omega), m1_off _ _ _ _ (by omega), sub_zero]
  have a2 : 0 - m1 N q (prev 2 l).val c = if 2 ≤ n ∧ n - 2 < 510 then - g1 N p (n - 2) c else 0 := by
    have hv : (prev 2 l).val = (l.val + 4096 - 2) % 4096 := rfl
    split
    · have e : (prev 2 l).val = 512 * b.val + (n - 2) := by omega
      rw [e, (m_on N q p b h (n - 2) (by omega) c).2, zero_sub]
    · rw [m1_off _ _ _ _ (by omega), sub_zero]
  rw [a0, a1, a2, force, Fin.sum_univ_three]
  simp [tug]

namespace Lanes

variable {x0 : S72x4096.Idx → EReal} {x1 : S64x136.Idx → EReal} {q : Fin 8 → ℕ → Fin 3 → ℝ} {N : Net}

theorem pullOf_at (z t s k i b u v w x o : Blk) (j : S8x4096.Idx) (z' t' s' k' i' b' u' v' w' x' o' : ℝ)
    (hz : z j = (z' : EReal)) (ht : t j = (t' : EReal)) (hs : s j = (s' : EReal)) (hk : k j = (k' : EReal))
    (hi : i j = (i' : EReal)) (hb : b j = (b' : EReal)) (hu : u j = (u' : EReal)) (hv : v j = (v' : EReal))
    (hw : w j = (w' : EReal)) (hx : x j = (x' : EReal)) (ho : o j = (o' : EReal)) :
    pullOf z t s k i b u v w x o j = (((z' - s' * k') * i' * b' + t' * (u' * v' - w' * x') - s' * o' : ℝ) : EReal) := by
  unfold pullOf
  pointwise
  simp only [hz, ht, hs, hk, hi, hb, hu, hv, hw, hx, ho, ← EReal.coe_mul, ← EReal.coe_sub, ← EReal.coe_add]

theorem at_turn (H : Lanes x0 x1 q N) (r : Fin 8) (l : Fin 4096) :
    (k0_pay145 (F := Ideal) x0 x1 : S8x4096.Idx → EReal) (ix2 r l) =
      ((turn (kept N (q r) l.val 1) (edge (q r) l.val) (edge (q r) (l.val + 1)) : ℝ) : EReal) := by
  rw [turn_pulls]
  pointwise
  rw [H.at_bend_pulls, H.at_area, H.at_den, ← EReal.coe_mul, div_real _ _ (mul_pos (len_pos _) (den_pos _ _)).ne']
  rfl

theorem at_shear (H : Lanes x0 x1 q N) (r : Fin 8) (l : Fin 4096) :
    shearV x0 x1 (ix2 r l) = ((shear (kept N (q r) l.val 1) (edge (q r) l.val) (edge (q r) (l.val + 1)) : ℝ) : EReal) := by
  change (divf (F := Ideal) (φ := .f32) (k0_pay146 (F := Ideal) x0 x1)
    (mulf (k0_pay109 (F := Ideal) x0 x1) (k0_pay109 (F := Ideal) x0 x1)) : S8x4096.Idx → EReal) (ix2 r l) = _
  rw [shear_pulls]
  pointwise
  rw [H.at_bend_pulls, H.at_area, H.at_den, ← EReal.coe_mul, ← EReal.coe_mul, div_real _ _ (mul_pos (den_pos _ _) (den_pos _ _)).ne']
  rfl

theorem at_inv (H : Lanes x0 x1 q N) (r : Fin 8) (l : Fin 4096) :
    (k0_pay142 (F := Ideal) x0 x1 : S8x4096.Idx → EReal) (ix2 r l) = ((1 / len (edge (q r) l.val) : ℝ) : EReal) ∧
    (k0_pay143 (F := Ideal) x0 x1 : S8x4096.Idx → EReal) (ix2 r l) = ((1 / len (edge (q r) (l.val + 1)) : ℝ) : EReal) := by
  have hl := H.at_lens r l
  have key : ∀ (v : Blk) (a : Fin 3 → ℝ), v (ix2 r l) = ((len a : ℝ) : EReal) →
      (divf (F := Ideal) (φ := .f32) (broadcast S8x4096 (Scalar.ofBits (F := Ideal) .f32 0x3F800000#32)) v : S8x4096.Idx → EReal)
        (ix2 r l) = ((1 / len a : ℝ) : EReal) := by
    intro v a hv
    pointwise
    rw [hv, ← EReal.coe_one, div_real _ _ (len_pos a).ne']
  exact ⟨key _ _ hl.1, key _ _ hl.2⟩

theorem at_G (H : Lanes x0 x1 q N) (c : Fin 3) (r : Fin 8) (l : Fin 4096) :
    G0 x0 x1 c (ix2 r l) = ((m0 N (q r) l.val c : ℝ) : EReal) ∧ G1 x0 x1 c (ix2 r l) = ((m1 N (q r) l.val c : ℝ) : EReal) := by
  obtain ⟨a0, a1, a2⟩ := H.at_first r l
  obtain ⟨b0, b1, b2⟩ := H.at_second r l
  obtain ⟨c0, c1, c2⟩ := H.at_cross r l
  obtain ⟨la, lb⟩ := H.at_lens r l
  obtain ⟨ia, ib⟩ := H.at_inv r l
  have z := H.at_stretch_pulls r l
  have t := H.at_turn r l
  have s := H.at_shear r l
  constructor
  · fin_cases c
    · exact pullOf_at _ _ _ _ _ _ _ _ _ _ _ _ _ _ _ _ _ _ _ _ _ _ _ z t s lb ia a0 b1 c2 b2 c1 b0
    · exact pullOf_at _ _ _ _ _ _ _ _ _ _ _ _ _ _ _ _ _ _ _ _ _ _ _ z t s lb ia a1 b2 c0 b0 c2 b1
    · exact pullOf_at _ _ _ _ _ _ _ _ _ _ _ _ _ _ _ _ _ _ _ _ _ _ _ z t s lb ia a2 b0 c1 b1 c0 b2
  · fin_cases c
    · exact pullOf_at _ _ _ _ _ _ _ _ _ _ _ _ _ _ _ _ _ _ _ _ _ _ _ z t s la ib b0 c1 a2 c2 a1 a0
    · exact pullOf_at _ _ _ _ _ _ _ _ _ _ _ _ _ _ _ _ _ _ _ _ _ _ _ z t s la ib b1 c2 a0 c0 a2 a1
    · exact pullOf_at _ _ _ _ _ _ _ _ _ _ _ _ _ _ _ _ _ _ _ _ _ _ _ z t s la ib b2 c0 a1 c1 a0 a2

/-- The gathered pulls are the forces. -/
theorem at_gather (H : Lanes x0 x1 q N) (p : ℕ → Fin 3 → ℝ) (r b : Fin 8) (h : ∀ k, k < 512 → q r (512 * b.val + k) = p k)
    (n : ℕ) (hn : n < 512) (c : Fin 3) (l : Fin 4096) (hl : l.val = 512 * b.val + n) :
    gather3 (G0 x0 x1 c) (G1 x0 x1 c) (ix2 r l) = ((force N p n c : ℝ) : EReal) := by
  have key : gather3 (G0 x0 x1 c) (G1 x0 x1 c) (ix2 r l) =
      G0 x0 x1 c (ix2 r l) + (G1 x0 x1 c (ix2 r (prev 1 l)) - G0 x0 x1 c (ix2 r (prev 1 l))) +
        ((Scalar.ofBits (F := Ideal) .f32 0x00000000#32 : EReal) - G1 x0 x1 c (ix2 r (prev 2 l))) :=
    congrArg₂ (fun s t : EReal => s + t) (congrArg (fun t : EReal => G0 x0 x1 c (ix2 r l) + t) (roll_prev1 _ r l)) (roll_prev2 _ r l)
  have z : (Scalar.ofBits (F := Ideal) .f32 0x00000000#32 : EReal) = ((0 : ℝ) : EReal) := zero_lit
  rw [key, z, (H.at_G c r l).1, (H.at_G c r (prev 1 l)).1, (H.at_G c r (prev 1 l)).2, (H.at_G c r (prev 2 l)).2,
    ← gathered N (q r) p b h n hn c l hl]
  simp only [← EReal.coe_sub, ← EReal.coe_add]

/-- The kernel's output. -/
theorem at_out (H : Lanes x0 x1 q N) (p : ℕ → Fin 3 → ℝ) (r b : Fin 8) (h : ∀ k, k < 512 → q r (512 * b.val + k) = p k)
    (n : ℕ) (hn : n < 512) (c : Fin 3) (l : Fin 4096) (hl : l.val = 512 * b.val + n) (e v s i : EReal)
    (he : x0 (ix2 ⟨48 + c.val * 8 + r.val, by omega⟩ l) = e) (hv : x0 (ix2 ⟨24 + c.val * 8 + r.val, by omega⟩ l) = v)
    (hs : x1 (ix2 0 133) = s) (hi : x1 (ix2 0 134) = i) :
    (out0_2 (F := Ideal) x0 x1 : S24x4096.Idx → EReal) (ix2 ⟨c.val * 8 + r.val, by omega⟩ l) =
      (((force N p n c : ℝ) : EReal) + e - s * v) * i := by
  have hs' : k0_pay87 (F := Ideal) (k0_pay111 (F := Ideal) x0 x1) = s := by
    refine Eq.trans ?_ hs
    pointwise [k0_pay87, k0_pay111, k0_pay20]
  have hi' : k0_pay88 (F := Ideal) (k0_pay111 (F := Ideal) x0 x1) = i := by
    refine Eq.trans ?_ hi
    pointwise [k0_pay88, k0_pay111, k0_pay20]
  have key : ∀ (c : Fin 3) (f e' v' : Blk), f (ix2 r l) = ((force N p n c : ℝ) : EReal) → e' (ix2 r l) = e → v' (ix2 r l) = v →
      accel s i f e' v' (ix2 r l) = (((force N p n c : ℝ) : EReal) + e - s * v) * i := by
    intro c f e' v' hf he hv
    unfold accel
    pointwise
    simp only [hf, he, hv]
  rw [out_pieces, three_blocks, hs', hi']
  have hg := H.at_gather p r b h n hn c l hl
  fin_cases c
  · refine key 0 _ _ _ hg (Eq.trans ?_ he) (Eq.trans ?_ hv)
    · pointwise
    · pointwise
  · refine key 1 _ _ _ hg (Eq.trans ?_ he) (Eq.trans ?_ hv)
    · pointwise
    · pointwise
  · refine key 2 _ _ _ hg (Eq.trans ?_ he) (Eq.trans ?_ hv)
    · pointwise
    · pointwise

end Lanes

end Cert.Elastic
-- ==== Proof.Read.lean ====
/- Reading one array of the reference's long host region.  `fin V r` is what the region leaves in `r`; an array read
   part of the way through the region, after the line that writes it, already holds that value.  The second fact is
   what lets a long chain of arrays be read in short stretches. -/
module

public import proofs.«01_k».proof.Defs
public import proofs.«01_k».proof.Proof.Gen.ReferenceIdeal.Run
public import Idealize.ShloMosaic.Lib.Pointwise

@[expose] public section

set_option maxRecDepth 100000
set_option Elab.async false

namespace Cert.Elastic

open Idealize.ShloMosaic Idealize.ShloMosaic.TcCoe Idealize.ShloMosaic.StableHlo
open Idealize.SL.Sem
open Cert.ReferenceIdeal Cert.ReferenceIdeal.Gen Cert.ReferenceIdeal.Value

/-- What the force region leaves in an array. -/
noncomputable def fin (V : Valuation τ sig (Elt Ideal)) (r : Ref sig .tc) :
    (Proc.devRef .tc r : DevRef τ sig).ty.Contents (Elt Ideal) :=
  after hostOps0_2 V (Proc.devRef .tc r)

/-- A line of operations run in two parts. -/
theorem run_two (l₁ l₂ : List (HloOp τ sig (Elt Ideal))) :
    ∀ V : Valuation τ sig (Elt Ideal), after (l₁ ++ l₂) V = after l₂ (after l₁ V) := by
  induction l₁ with
  | nil => intro V; rfl
  | cons a l ih => intro V; exact ih _

/-- An array no later line writes already holds its final value. -/
theorem stable (V : Valuation τ sig (Elt Ideal)) (r : Ref sig .tc) (n : ℕ) (h : r ∉ hostOps0_2_W.drop n) :
    upto (no_index hostOps0_2) V n (no_index (Proc.devRef .tc r)) = fin V r := by
  have key : (hostOps0_2 (F := Ideal)).map HloOp.writes =
      hostOps0_2_W.map fun w => {Proc.devRef (τ := τ) .tc w} := rfl
  have h2 : after hostOps0_2 V = after (hostOps0_2.drop n) (upto hostOps0_2 V n) := by
    have := run_two (hostOps0_2.take n) (hostOps0_2.drop n) V
    rw [List.take_append_drop] at this
    exact this
  unfold fin
  rw [h2]
  exact (after_unwritten (hostOps0_2_W.drop n) (by rw [List.map_drop, List.map_drop, key]) h _).symm

end Cert.Elastic
-- ==== Proof.KerHost.lean ====
/- What the host packs for the kernel: the positions, velocities and external forces, one component and eight batches to a
   block, and the weights, the damping and the mass's reciprocal, a column each. -/
module

public import proofs.«01_k».proof.Proof.KerOut
public import proofs.«01_k».proof.Proof.Read

@[expose] public section

set_option maxRecDepth 100000
set_option Elab.async false

namespace Cert.Elastic

open Idealize.ShloMosaic Idealize.ShloMosaic.StableHlo Idealize.ShloMosaic.TcCoe
open Idealize.SL.Sem
open Cert.KernelIdeal Cert.KernelIdeal.Gen

/-- The arrays the host writes before the kernel, in order. -/
def packW : List (Ref sig .tc) :=
  [main_v0, main_v1, main_v2, main_v3, main_v4, main_v5, main_v6, main_v7, main_v8, main_v9, main_v10, main_v11, main_v12,
   main_v13, main_v14, main_v15, main_v16, main_v17, main_v18, main_v19, main_v20, main_v21, main_v22, main_v23, main_v24,
   main_v25, main_v26, main_v27, main_v28, main_v29, main_v30, main_v31, main_v32, main_v33, main_v34, main_v35, main_v36,
   main_v37, main_v38, main_v39, main_v40, main_v41, main_cst, main_v42, main_v43, main_v44, main_v45, main_v46, main_v47,
   main_v48, main_v49, main_v50, main_v51, main_v52, main_v53, main_v54, main_v55, main_v56, main_v57, main_cst_0, main_v58,
   main_v59, main_v60, main_cst_1, main_v61, main_v62]

/-- What the host leaves in an array before the kernel. -/
noncomputable def packed (W : Valuation τ sig (Elt Ideal)) (r : Ref sig .tc) :
    (Proc.devRef .tc r : DevRef τ sig).ty.Contents (Elt Ideal) :=
  after hostOps0 W (Proc.devRef .tc r)

theorem pack_two (l₁ l₂ : List (HloOp τ sig (Elt Ideal))) :
    ∀ V : Valuation τ sig (Elt Ideal), after (l₁ ++ l₂) V = after l₂ (after l₁ V) := by
  induction l₁ with
  | nil => intro V; rfl
  | cons a l ih => intro V; exact ih _

/-- An array no later line writes already holds its final value. -/
theorem packed_stable (V : Valuation τ sig (Elt Ideal)) (r : Ref sig .tc) (n : ℕ) (h : r ∉ packW.drop n) :
    upto (no_index hostOps0) V n (no_index (Proc.devRef .tc r)) = packed V r := by
  have key : (hostOps0 (F := Ideal)).map HloOp.writes = packW.map fun w => {Proc.devRef (τ := τ) .tc w} := rfl
  have h2 : after hostOps0 V = after (hostOps0.drop n) (upto hostOps0 V n) := by
    have := pack_two (hostOps0.take n) (hostOps0.drop n) V
    rw [List.take_append_drop] at this
    exact this
  unfold packed
  rw [h2]
  exact (after_unwritten (packW.drop n) (by rw [List.map_drop, List.map_drop, key]) h _).symm

/-- Nine blocks one under the other, read. -/
theorem nine (u0 u1 u2 u3 u4 u5 u6 u7 u8 : S8x4096.Idx → EReal) (h : _) (k : Fin 9) (r : Fin 8) (l : Fin 4096) :
    concatenate S72x4096 0 [⟨S8x4096, u0⟩, ⟨S8x4096, u1⟩, ⟨S8x4096, u2⟩, ⟨S8x4096, u3⟩, ⟨S8x4096, u4⟩, ⟨S8x4096, u5⟩,
      ⟨S8x4096, u6⟩, ⟨S8x4096, u7⟩, ⟨S8x4096, u8⟩] h
      (ix2 ⟨k.val * 8 + r.val, by omega⟩ l) = (![u0, u1, u2, u3, u4, u5, u6, u7, u8] k : S8x4096.Idx → EReal) (ix2 r l) := by
  fin_cases k <;> pointwise <;>
    (repeat first | rw [dif_pos (by omega)] | rw [dif_neg (by omega)]) <;>
    exact congrArg _ (congrArg (fun i : Fin 8 => ix2 i l) (Fin.ext (by simp only []; omega)))

theorem pick (a0 a1 a2 a3 a4 a5 a6 a7 a8 b0 b1 b2 b3 b4 b5 b6 b7 b8 : S8x4096.Idx → EReal) (h0 : a0 = b0) (h1 : a1 = b1)
    (h2 : a2 = b2) (h3 : a3 = b3) (h4 : a4 = b4) (h5 : a5 = b5) (h6 : a6 = b6) (h7 : a7 = b7) (h8 : a8 = b8) (k : Fin 9) :
    ![a0, a1, a2, a3, a4, a5, a6, a7, a8] k = ![b0, b1, b2, b3, b4, b5, b6, b7, b8] k := by
  subst h0 h1 h2 h3 h4 h5 h6 h7 h8
  rfl

/-- The weights' columns: two square blocks and eight single columns side by side. -/
theorem ten (u0 u1 : S64x64.Idx → EReal) (u2 u3 u4 u5 u6 u7 u8 u9 : S64x1.Idx → EReal) (h : _) (v : S64x136.Idx → EReal)
    (hv : v = concatenate S64x136 1 [⟨S64x64, u0⟩, ⟨S64x64, u1⟩, ⟨S64x1, u2⟩, ⟨S64x1, u3⟩, ⟨S64x1, u4⟩, ⟨S64x1, u5⟩,
      ⟨S64x1, u6⟩, ⟨S64x1, u7⟩, ⟨S64x1, u8⟩, ⟨S64x1, u9⟩] h) (i : Fin 64) :
    (∀ j : Fin 64, v (ix2 i ⟨j.val, by omega⟩) = u0 (ix2 i j)) ∧ (∀ j : Fin 64, v (ix2 i ⟨64 + j.val, by omega⟩) = u1 (ix2 i j)) ∧
      v (ix2 i ⟨128, by omega⟩) = u2 (ix2 i 0) ∧ v (ix2 i ⟨129, by omega⟩) = u3 (ix2 i 0) ∧
      v (ix2 i ⟨130, by omega⟩) = u4 (ix2 i 0) ∧ v (ix2 i ⟨131, by omega⟩) = u5 (ix2 i 0) ∧
      v (ix2 i ⟨132, by omega⟩) = u6 (ix2 i 0) ∧ v (ix2 i ⟨133, by omega⟩) = u7 (ix2 i 0) ∧
      v (ix2 i ⟨134, by omega⟩) = u8 (ix2 i 0) := by
  subst hv
  refine ⟨fun j => ?_, fun j => ?_, ?_, ?_, ?_, ?_, ?_, ?_, ?_⟩
  · pointwise
  · pointwise
  all_goals pointwise

variable (W : Valuation τ sig (Elt Ideal))

/-- The kernel's first input is the nine blocks. -/
theorem packed_in (k : Fin 9) (r : Fin 8) (l : Fin 4096) :
    (packed W main_v41 : S72x4096.Idx → EReal) (ix2 ⟨k.val * 8 + r.val, by omega⟩ l) =
      (![packed W main_v7, packed W main_v10, packed W main_v13, packed W main_v16, packed W main_v19, packed W main_v22,
        packed W main_v28, packed W main_v34, packed W main_v40] k : S8x4096.Idx → EReal) (ix2 r l) := by
  have e : ∀ r : Ref sig .tc, r ∉ packW.drop 41 → upto hostOps0 W 41 (Proc.devRef .tc r) = packed W r :=
    fun r h => packed_stable W r 41 h
  have h : packed W main_v41 = _ := (after_last_write (i := 41) (ops := hostOps0) (packW.drop 42) (by rfl) (by rfl) (by decide) W).trans
    (nary_result _ _ _ _ _ _)
  refine (congrFun h _).trans ((nine _ _ _ _ _ _ _ _ _ _ k r l).trans ?_)
  exact congrFun (pick _ _ _ _ _ _ _ _ _ _ _ _ _ _ _ _ _ _ (e main_v7 (by decide))
    (e main_v10 (by decide))
    (e main_v13 (by decide))
    (e main_v16 (by decide))
    (e main_v19 (by decide))
    (e main_v22 (by decide))
    (e main_v28 (by decide))
    (e main_v34 (by decide))
    (e main_v40 (by decide)) k) (ix2 r l)

/-- The first six blocks are the state's components, -/
theorem packed_state (c : Fin 3) (r : Fin 8) (l : Fin 4096) :
    (![packed W main_v7, packed W main_v10, packed W main_v13] c : S8x4096.Idx → EReal) (ix2 r l) =
      (W (Proc.devRef .tc main_arg1) : S64x3072.Idx → EReal)
        (ix2 ⟨r.val * 8 + l.val / 512, by omega⟩ ⟨l.val % 512 * 3 + c.val, by omega⟩) ∧
    (![packed W main_v16, packed W main_v19, packed W main_v22] c : S8x4096.Idx → EReal) (ix2 r l) =
      (W (Proc.devRef .tc main_arg1) : S64x3072.Idx → EReal)
        (ix2 ⟨r.val * 8 + l.val / 512, by omega⟩ ⟨1536 + (l.val % 512 * 3 + c.val), by omega⟩) := by
  unfold packed
  fin_cases c <;> exact ⟨by dsimp only; after_reads_simp; pointwise, by dsimp only; after_reads_simp; pointwise⟩

/-- The other three are the external force's, the same for every batch. -/
theorem packed_force (c : Fin 3) (r : Fin 8) (l : Fin 4096) :
    (![packed W main_v28, packed W main_v34, packed W main_v40] c : S8x4096.Idx → EReal) (ix2 r l) =
      (W (Proc.devRef .tc main_arg11) : S1536.Idx → EReal) (ix1 ⟨l.val % 512 * 3 + c.val, by omega⟩) := by
  unfold packed
  fin_cases c <;> (dsimp only; after_reads_simp; pointwise)

/-- The kernel's second input, column by column. -/
theorem packed_weights (i : Fin 64) :
    (∀ j : Fin 64, (packed W main_v62 : S64x136.Idx → EReal) (ix2 i ⟨j.val, by omega⟩) =
      (W (Proc.devRef .tc main_arg4) : S64x64.Idx → EReal) (ix2 i j)) ∧
    (∀ j : Fin 64, (packed W main_v62 : S64x136.Idx → EReal) (ix2 i ⟨64 + j.val, by omega⟩) =
      (W (Proc.devRef .tc main_arg4) : S64x64.Idx → EReal) (ix2 j i)) ∧
    (packed W main_v62 : S64x136.Idx → EReal) (ix2 i ⟨128, by omega⟩) = (W (Proc.devRef .tc main_arg2) : S2x64.Idx → EReal) (ix2 0 i) ∧
    (packed W main_v62 : S64x136.Idx → EReal) (ix2 i ⟨129, by omega⟩) = (W (Proc.devRef .tc main_arg2) : S2x64.Idx → EReal) (ix2 1 i) ∧
    (packed W main_v62 : S64x136.Idx → EReal) (ix2 i ⟨130, by omega⟩) = (W (Proc.devRef .tc main_arg3) : S64.Idx → EReal) (ix1 i) ∧
    (packed W main_v62 : S64x136.Idx → EReal) (ix2 i ⟨131, by omega⟩) = (W (Proc.devRef .tc main_arg5) : S64.Idx → EReal) (ix1 i) ∧
    (packed W main_v62 : S64x136.Idx → EReal) (ix2 i ⟨132, by omega⟩) = (W (Proc.devRef .tc main_arg6) : S64x1.Idx → EReal) (ix2 i 0) ∧
    (packed W main_v62 : S64x136.Idx → EReal) (ix2 i ⟨133, by omega⟩) =
      (W (Proc.devRef .tc main_arg10) : S1536x1536.Idx → EReal) (ix2 0 0) ∧
    (packed W main_v62 : S64x136.Idx → EReal) (ix2 i ⟨134, by omega⟩) =
      Ideal.div 1 ((W (Proc.devRef .tc main_arg9) : S1536x1536.Idx → EReal) (ix2 0 0)) := by
  have e : ∀ r : Ref sig .tc, r ∉ packW.drop 65 → upto hostOps0 W 65 (Proc.devRef .tc r) = packed W r :=
    fun r h => packed_stable W r 65 h
  have h : packed W main_v62 = _ := (after_last_write (i := 65) (ops := hostOps0) (packW.drop 66) (by rfl) (by rfl) (by decide) W).trans
    (nary_result _ _ _ _ _ _)
  obtain ⟨h0, h1, h2, h3, h4, h5, h6, h7, h8⟩ := ten _ _ _ _ _ _ _ _ _ _ _ _ h i
  have k0 : packed W main_arg4 = W (Proc.devRef .tc main_arg4) := after_unwritten packW (by rfl) (by decide) W
  have k6 : packed W main_arg6 = W (Proc.devRef .tc main_arg6) := after_unwritten packW (by rfl) (by decide) W
  refine ⟨fun j => (h0 j).trans ?_, fun j => (h1 j).trans ?_, h2.trans ?_, h3.trans ?_, h4.trans ?_, h5.trans ?_, h6.trans ?_,
    h7.trans ?_, h8.trans ?_⟩
  · exact congrFun ((e main_arg4 (by decide)).trans k0) _
  · refine (congrFun (e main_v43 (by decide)) _).trans ?_
    unfold packed
    after_reads_simp
    pointwise
  · refine (congrFun (e main_v46 (by decide)) _).trans ?_
    unfold packed
    after_reads_simp
    pointwise
  · refine (congrFun (e main_v49 (by decide)) _).trans ?_
    unfold packed
    after_reads_simp
    pointwise
  · refine (congrFun (e main_v50 (by decide)) _).trans ?_
    unfold packed
    after_reads_simp
    pointwise
  · refine (congrFun (e main_v51 (by decide)) _).trans ?_
    unfold packed
    after_reads_simp
    pointwise
  · exact congrFun ((e main_arg6 (by decide)).trans k6) _
  · refine (congrFun (e main_v55 (by decide)) _).trans ?_
    unfold packed
    after_reads_simp
    pointwise
  · refine (congrFun (e main_v60 (by decide)) _).trans ?_
    unfold packed
    after_reads_simp
    pointwise

end Cert.Elastic
-- ==== Proof.Data.lean ====
/- The argument arrays as real data: the nodes' positions and the network's weights. -/
module

public import proofs.«01_k».proof.Proof.Spring
public import Idealize.ShloMosaic.Lib.Pointwise

@[expose] public section

namespace Cert.Elastic

open Idealize.ShloMosaic

/-- The positions of a batch's nodes; nothing past the last. -/
noncomputable def nodes (X : Shape.Idx ⟨2, ![64, 3072]⟩ → EReal) (b : Fin 64) (n : ℕ) (c : Fin 3) : ℝ :=
  if h : n < 512 then (X (ix2 b ⟨n * 3 + c.val, by omega⟩)).toReal else 0

/-- The network's weights. -/
noncomputable def netOf (A2 : Shape.Idx ⟨2, ![2, 64]⟩ → EReal) (A3 : Shape.Idx ⟨1, ![64]⟩ → EReal)
    (A4 : Shape.Idx ⟨2, ![64, 64]⟩ → EReal) (A5 : Shape.Idx ⟨1, ![64]⟩ → EReal) (A6 : Shape.Idx ⟨2, ![64, 1]⟩ → EReal) : Net where
  w1 i j := (A2 (ix2 i j)).toReal
  b1 j := (A3 (ix1 j)).toReal
  w2 i j := (A4 (ix2 i j)).toReal
  b2 j := (A5 (ix1 j)).toReal
  w3 j := (A6 (ix2 j 0)).toReal

/-- The positions and the weights are real numbers. -/
structure AllReal (X : Shape.Idx ⟨2, ![64, 3072]⟩ → EReal) (A2 : Shape.Idx ⟨2, ![2, 64]⟩ → EReal) (A3 : Shape.Idx ⟨1, ![64]⟩ → EReal)
    (A4 : Shape.Idx ⟨2, ![64, 64]⟩ → EReal) (A5 : Shape.Idx ⟨1, ![64]⟩ → EReal) (A6 : Shape.Idx ⟨2, ![64, 1]⟩ → EReal) : Prop where
  x : ∀ (b : Fin 64) (d : Fin 3072), d.val < 1536 → X (ix2 b d) = ((X (ix2 b d)).toReal : EReal)
  w1 : ∀ (i : Fin 2) (j : Fin 64), A2 (ix2 i j) = ((A2 (ix2 i j)).toReal : EReal)
  b1 : ∀ j : Fin 64, A3 (ix1 j) = ((A3 (ix1 j)).toReal : EReal)
  w2 : ∀ i j : Fin 64, A4 (ix2 i j) = ((A4 (ix2 i j)).toReal : EReal)
  b2 : ∀ j : Fin 64, A5 (ix1 j) = ((A5 (ix1 j)).toReal : EReal)
  w3 : ∀ j : Fin 64, A6 (ix2 j 0) = ((A6 (ix2 j 0)).toReal : EReal)

end Cert.Elastic
-- ==== Proof.KerVal.lean ====
/- The kernel program's result: what its host unpacks from what the kernel stores for what its host packs. -/
module

public import proofs.«01_k».proof.Proof.KerHost
public import proofs.«01_k».proof.Proof.Data
public import Idealize.ShloMosaic.Lib.Pipeline.ValueKit

@[expose] public section

set_option maxRecDepth 100000
set_option Elab.async false

namespace Cert.Elastic

open Idealize.ShloMosaic Idealize.ShloMosaic.StableHlo Idealize.ShloMosaic.TcCoe
open Idealize.SL.Sem
open Cert.KernelIdeal Cert.KernelIdeal.Gen

section Block

variable (m : (ℓ : Loc nD τ sig) → Buf (Elt Ideal) ℓ)

theorem iblk0 (c : Dev nD) (t : Fin cfg0.N) : (iblk m c 0 t : S72x4096.Idx → EReal) = V m c main_v41 := by
  have idx : ∀ t : Fin cfg0.N, win0_0.index t = ![0, 0] := by decide
  funext y
  blk_ext [iblk, idx t]

theorem iblk1 (c : Dev nD) (t : Fin cfg0.N) : (iblk m c 1 t : S64x136.Idx → EReal) = V m c main_v62 := by
  have idx : ∀ t : Fin cfg0.N, win0_1.index t = ![0, 0] := by decide
  funext y
  blk_ext [iblk, idx t]

/-- The kernel's output array after the run. -/
theorem stored (c : Dev nD) :
    ((dats m 0 c).arrAt 2 cfg0.N : S24x4096.Idx → EReal) = out0_2 (F := Ideal) (V m c main_v41) (V m c main_v62) := by
  have idx : ∀ t : Fin cfg0.N, win0_2.index t = ![0, 0] := by decide
  refine (dats m 0 c).arrAt_eq_of_covers 2 _ (by decide +kernel) fun t hf y => ?_
  blk_simp
  rw [after0_2, iblk0, iblk1]
  have e : ((win0_2.blk t).view.emb y : S24x4096.Idx) = y := by blk_ext [idx t]
  generalize out0_2 (F := Ideal) (V m c main_v41) (V m c main_v62) = G
  exact congrArg G e.symm

end Block

/-- Three of nine, from the first, the fourth or the seventh. -/
theorem threes (a0 a1 a2 a3 a4 a5 a6 a7 a8 : S8x4096.Idx → EReal) (c : Fin 3) :
    ![a0, a1, a2, a3, a4, a5, a6, a7, a8] ⟨c.val, by omega⟩ = ![a0, a1, a2] c ∧
      ![a0, a1, a2, a3, a4, a5, a6, a7, a8] ⟨3 + c.val, by omega⟩ = ![a3, a4, a5] c ∧
      ![a0, a1, a2, a3, a4, a5, a6, a7, a8] ⟨6 + c.val, by omega⟩ = ![a6, a7, a8] c := by
  fin_cases c <;> exact ⟨rfl, rfl, rfl⟩

section Host

variable (W : Valuation τ sig (Elt Ideal))

/-- The result's first half is the velocities. -/
theorem unpacked_low (b : Fin 64) (d : Fin 1536) :
    (after hostOps1 W (Proc.devRef .tc main_v75) : S64x3072.Idx → EReal) (ix2 b ⟨d.val, by omega⟩) =
      (W (Proc.devRef .tc main_v1) : S64x1536.Idx → EReal) (ix2 b d) := by
  after_reads_simp
  pointwise

theorem plane (b : Fin 64) (n : Fin 512) (j : Fin 1) :
    (upto hostOps1 W 9 (Proc.devRef .tc main_v70) : S64x512x1.Idx → EReal) (ix3 b n j) =
      (W (Proc.devRef .tc main_v63) : S24x4096.Idx → EReal) (ix2 ⟨b.val / 8, by omega⟩ ⟨512 * (b.val % 8) + n.val, by omega⟩) ∧
    (upto hostOps1 W 9 (Proc.devRef .tc main_v71) : S64x512x1.Idx → EReal) (ix3 b n j) =
      (W (Proc.devRef .tc main_v63) : S24x4096.Idx → EReal) (ix2 ⟨8 + b.val / 8, by omega⟩ ⟨512 * (b.val % 8) + n.val, by omega⟩) ∧
    (upto hostOps1 W 9 (Proc.devRef .tc main_v72) : S64x512x1.Idx → EReal) (ix3 b n j) =
      (W (Proc.devRef .tc main_v63) : S24x4096.Idx → EReal)
        (ix2 ⟨16 + b.val / 8, by omega⟩ ⟨512 * (b.val % 8) + n.val, by omega⟩) := by
  obtain rfl : j = 0 := Fin.ext (by omega)
  refine ⟨?_, ?_, ?_⟩
  all_goals
    after_reads_simp
    pointwise
    refine congrArg _ (congrArg₂ ix2 (Fin.ext ?_) (Fin.ext ?_)) <;> simp only [] <;> omega

/-- Its second half is the kernel's three blocks, interleaved. -/
theorem unpacked_high (b : Fin 64) (n : Fin 512) (c : Fin 3) :
    (after hostOps1 W (Proc.devRef .tc main_v75) : S64x3072.Idx → EReal) (ix2 b ⟨1536 + (n.val * 3 + c.val), by omega⟩) =
      (W (Proc.devRef .tc main_v63) : S24x4096.Idx → EReal)
        (ix2 ⟨c.val * 8 + b.val / 8, by omega⟩ ⟨512 * (b.val % 8) + n.val, by omega⟩) := by
  have e : ∀ k : ℕ, k < 3 → (n.val * 3 + k) / 3 = n.val := fun k hk => by omega
  after_reads_simp
  fin_cases c
  · pointwise
    rw [dif_pos (by omega)]
    refine Eq.trans (congrArg _ ?_) (plane W b n 0).1
    exact congrArg₂ (ix3 b) (Fin.ext (e 0 (by omega))) (Fin.ext (by simp only []; omega))
  · pointwise
    rw [dif_neg (by omega), dif_pos (by omega)]
    refine Eq.trans (congrArg _ ?_) (plane W b n 0).2.1
    exact congrArg₂ (ix3 b) (Fin.ext (e 1 (by omega))) (Fin.ext (by simp only []; omega))
  · pointwise
    rw [dif_neg (by omega), dif_neg (by omega)]
    refine Eq.trans (congrArg _ ?_) (plane W b n 0).2.2
    exact congrArg₂ (ix3 b) (Fin.ext (e 2 (by omega))) (Fin.ext (by simp only []; omega))

theorem velocities (b : Fin 64) (d : Fin 1536) :
    (packed W main_v1 : S64x1536.Idx → EReal) (ix2 b d) =
      (W (Proc.devRef .tc main_arg1) : S64x3072.Idx → EReal) (ix2 b ⟨1536 + d.val, by omega⟩) := by
  unfold packed
  after_reads_simp
  pointwise

/-- What the host packs, read as real data. -/
theorem lanes (hR : AllReal (W (Proc.devRef .tc main_arg1)) (W (Proc.devRef .tc main_arg2)) (W (Proc.devRef .tc main_arg3))
      (W (Proc.devRef .tc main_arg4)) (W (Proc.devRef .tc main_arg5)) (W (Proc.devRef .tc main_arg6))) :
    Lanes (packed W main_v41) (packed W main_v62)
      (fun r n => nodes (W (Proc.devRef .tc main_arg1)) ⟨r.val * 8 + n % 4096 / 512, by omega⟩ (n % 512))
      (netOf (W (Proc.devRef .tc main_arg2)) (W (Proc.devRef .tc main_arg3)) (W (Proc.devRef .tc main_arg4))
        (W (Proc.devRef .tc main_arg5)) (W (Proc.devRef .tc main_arg6))) where
  around r n := by
    have e : n % 4096 % 4096 / 512 = n % 4096 / 512 := by omega
    have e' : n % 4096 % 512 = n % 512 := by omega
    simp only [e, e']
  pos c r l := by
    have h := (packed_in W ⟨c.val, by omega⟩ r l)
    have h2 := (packed_state W c r l).1
    have h3 : (![packed W main_v7, packed W main_v10, packed W main_v13, packed W main_v16, packed W main_v19, packed W main_v22,
        packed W main_v28, packed W main_v34, packed W main_v40] ⟨c.val, by omega⟩ : S8x4096.Idx → EReal) =
        ![packed W main_v7, packed W main_v10, packed W main_v13] c := (threes _ _ _ _ _ _ _ _ _ c).1
    rw [h, h3, h2]
    have hl : l.val % 4096 / 512 = l.val / 512 := by omega
    have hn : l.val % 512 < 512 := by omega
    simp only [nodes, hl, dif_pos hn]
    exact hR.x _ _ (by simp only []; omega)
  w2 i j := ((packed_weights W i).1 j).trans (hR.w2 i j)
  w2t i j := ((packed_weights W j).2.1 i).trans (hR.w2 i j)
  w1 k j := by
    have h := (packed_weights W j).2.2
    fin_cases k
    · exact h.1.trans (hR.w1 0 j)
    · exact h.2.1.trans (hR.w1 1 j)
  b1 j := (packed_weights W j).2.2.2.2.1.trans (hR.b1 j)
  b2 j := (packed_weights W j).2.2.2.2.2.1.trans (hR.b2 j)
  w3 j := (packed_weights W j).2.2.2.2.2.2.1.trans (hR.w3 j)

/-- What the kernel stores for what the host packs. -/
theorem stored_at (hR : AllReal (W (Proc.devRef .tc main_arg1)) (W (Proc.devRef .tc main_arg2)) (W (Proc.devRef .tc main_arg3))
      (W (Proc.devRef .tc main_arg4)) (W (Proc.devRef .tc main_arg5)) (W (Proc.devRef .tc main_arg6)))
    (b : Fin 64) (n : Fin 512) (c : Fin 3) (e v s i : EReal)
    (he : (W (Proc.devRef .tc main_arg11) : S1536.Idx → EReal) (ix1 ⟨n.val * 3 + c.val, by omega⟩) = e)
    (hv : (W (Proc.devRef .tc main_arg1) : S64x3072.Idx → EReal) (ix2 b ⟨1536 + (n.val * 3 + c.val), by omega⟩) = v)
    (hs : (W (Proc.devRef .tc main_arg10) : S1536x1536.Idx → EReal) (ix2 0 0) = s)
    (hi : (W (Proc.devRef .tc main_arg9) : S1536x1536.Idx → EReal) (ix2 0 0) = i) :
    (out0_2 (F := Ideal) (packed W main_v41) (packed W main_v62) : S24x4096.Idx → EReal)
        (ix2 ⟨c.val * 8 + b.val / 8, by omega⟩ ⟨512 * (b.val % 8) + n.val, by omega⟩) =
      (((force (netOf (W (Proc.devRef .tc main_arg2)) (W (Proc.devRef .tc main_arg3)) (W (Proc.devRef .tc main_arg4))
        (W (Proc.devRef .tc main_arg5)) (W (Proc.devRef .tc main_arg6))) (nodes (W (Proc.devRef .tc main_arg1)) b) n.val c : ℝ) : EReal)
          + e - s * v) * Ideal.div 1 i := by
  have hw := (packed_weights W 0).2.2.2.2.2.2.2
  have hrow : (⟨b.val / 8 * 8 + (512 * (b.val % 8) + n.val) / 512, by omega⟩ : Fin 64) = b := Fin.ext (by simp only []; omega)
  have hcol : (512 * (b.val % 8) + n.val) % 512 = n.val := by omega
  refine (lanes W hR).at_out (nodes (W (Proc.devRef .tc main_arg1)) b) ⟨b.val / 8, by omega⟩ ⟨b.val % 8, by omega⟩ ?_ n.val n.isLt c
    ⟨512 * (b.val % 8) + n.val, by omega⟩ rfl e v s (Ideal.div 1 i) ?_ ?_ (hw.1.trans hs) (hw.2.trans (congrArg (Ideal.div 1) hi))
  · intro k hk
    have h1 : b.val / 8 * 8 + (512 * (b.val % 8) + k) % 4096 / 512 = b.val := by omega
    have h2 : (512 * (b.val % 8) + k) % 512 = k := by omega
    simp only [h1, h2]
  · refine Eq.trans ?_ he
    have h := packed_in W ⟨6 + c.val, by omega⟩ ⟨b.val / 8, by omega⟩ ⟨512 * (b.val % 8) + n.val, by omega⟩
    have h2 := packed_force W c ⟨b.val / 8, by omega⟩ ⟨512 * (b.val % 8) + n.val, by omega⟩
    have h3 : (![packed W main_v7, packed W main_v10, packed W main_v13, packed W main_v16, packed W main_v19, packed W main_v22,
        packed W main_v28, packed W main_v34, packed W main_v40] ⟨6 + c.val, by omega⟩ : S8x4096.Idx → EReal) =
        ![packed W main_v28, packed W main_v34, packed W main_v40] c := (threes _ _ _ _ _ _ _ _ _ c).2.2
    rw [h3, h2] at h
    have hr : (6 + c.val) * 8 + b.val / 8 = 48 + c.val * 8 + b.val / 8 := by omega
    simp only [hr, hcol] at h
    exact h
  · refine Eq.trans ?_ hv
    have h := packed_in W ⟨3 + c.val, by omega⟩ ⟨b.val / 8, by omega⟩ ⟨512 * (b.val % 8) + n.val, by omega⟩
    have h2 := (packed_state W c ⟨b.val / 8, by omega⟩ ⟨512 * (b.val % 8) + n.val, by omega⟩).2
    have h3 : (![packed W main_v7, packed W main_v10, packed W main_v13, packed W main_v16, packed W main_v19, packed W main_v22,
        packed W main_v28, packed W main_v34, packed W main_v40] ⟨3 + c.val, by omega⟩ : S8x4096.Idx → EReal) =
        ![packed W main_v16, packed W main_v19, packed W main_v22] c := (threes _ _ _ _ _ _ _ _ _ c).2.1
    rw [h3, h2] at h
    have hr : (3 + c.val) * 8 + b.val / 8 = 24 + c.val * 8 + b.val / 8 := by omega
    simp only [hr, hcol, hrow] at h
    exact h

end Host

/-- The kernel program's result array. -/
noncomputable def answer (m : (ℓ : Loc nD τ sig) → Buf (Elt Ideal) ℓ) (c : Dev nD) : Buf (Elt Ideal) ((c : Thread nD τ).loc main_v75) :=
  Pipeline.afterTail₀ cfgs (dats m) 0 (V0 m) [hostOps1] c main_v75

section Run

variable (m : (ℓ : Loc nD τ sig) → Buf (Elt Ideal) ℓ) (c : Dev nD)

/-- The first half of the answer is the velocities. -/
theorem answer_low (b : Fin 64) (d : Fin 1536) :
    (answer m c : S64x3072.Idx → EReal) (ix2 b ⟨d.val, by omega⟩) =
      (m ((c : Thread nD τ).loc main_arg1) : S64x3072.Idx → EReal) (ix2 b ⟨1536 + d.val, by omega⟩) := by
  unfold answer Pipeline.afterTail₀
  refine (unpacked_low _ b d).trans ?_
  rw [Pipeline.withArrays_of_ne _ c (V0 m c) _ main_v1 (by exact (by decide : ∀ w, Pipeline.arrRef spec0 w ≠ main_v1))]
  exact velocities (fun b => m (c, b)) b d

/-- The second half is the accelerations. -/
theorem answer_high (hR : AllReal (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)))
    (b : Fin 64) (n : Fin 512) (k : Fin 3) (e v s i : EReal)
    (he : (m ((c : Thread nD τ).loc main_arg11) : S1536.Idx → EReal) (ix1 ⟨n.val * 3 + k.val, by omega⟩) = e)
    (hv : (m ((c : Thread nD τ).loc main_arg1) : S64x3072.Idx → EReal) (ix2 b ⟨1536 + (n.val * 3 + k.val), by omega⟩) = v)
    (hs : (m ((c : Thread nD τ).loc main_arg10) : S1536x1536.Idx → EReal) (ix2 0 0) = s)
    (hi : (m ((c : Thread nD τ).loc main_arg9) : S1536x1536.Idx → EReal) (ix2 0 0) = i) :
    (answer m c : S64x3072.Idx → EReal) (ix2 b ⟨1536 + (n.val * 3 + k.val), by omega⟩) =
      (((force (netOf (m ((c : Thread nD τ).loc main_arg2)) (m ((c : Thread nD τ).loc main_arg3)) (m ((c : Thread nD τ).loc main_arg4))
        (m ((c : Thread nD τ).loc main_arg5)) (m ((c : Thread nD τ).loc main_arg6)))
        (nodes (m ((c : Thread nD τ).loc main_arg1)) b) n.val k : ℝ) : EReal) + e - s * v) * Ideal.div 1 i := by
  unfold answer Pipeline.afterTail₀
  refine (unpacked_high _ b n k).trans ?_
  have h : Pipeline.withArrays (τ := τ) (cfgs 0).spec c (V0 m c) (fun w => (dats m 0 c).arrAt w (cfgs 0).N) (Proc.devRef .tc main_v63) =
      (dats m 0 c).arrAt 2 (cfgs 0).N :=
    Pipeline.withArrays_arr (cfgs 0).spec (by decide) c (V0 m c) (fun w => (dats m 0 c).arrAt w (cfgs 0).N) 2
  rw [h]
  refine (congrFun (stored m c) _).trans ?_
  exact stored_at (fun b => m (c, b)) hR b n k e v s i he hv hs hi

end Run

end Cert.Elastic
-- ==== Proof.RefForce.lean ====
/- The reference's spring forces read at one batch and one spring, stage by stage, as real numbers. -/
module

public import proofs.«01_k».proof.Proof.Read
public import proofs.«01_k».proof.Proof.Spring

@[expose] public section

set_option maxRecDepth 100000
set_option Elab.async false

namespace Cert.Elastic

open Idealize.ShloMosaic Idealize.ShloMosaic.TcCoe Idealize.ShloMosaic.StableHlo
open Idealize.SL.Sem
open Cert.ReferenceIdeal Cert.ReferenceIdeal.Gen Cert.ReferenceIdeal.Value

/-- The force region's inputs as reals: `p b n` is node `n` of batch `b`, read through the springs' node list, and `N`
is the network. -/
structure Chain (V : Valuation τ sig (Elt Ideal)) (p : Fin 64 → ℕ → Fin 3 → ℝ) (N : Net) : Prop where
  pos : ∀ (b : Fin 64) (s : Fin 510) (j c : Fin 3),
    (V (Proc.devRef .tc main_v4) : S64x1530x3.Idx → EReal) (ix3 b ⟨s.val * 3 + j.val, by omega⟩ c) =
      ((p b (s.val + j.val) c : ℝ) : EReal)
  w1 : ∀ i j, (V (Proc.devRef .tc main_arg2) : S2x64.Idx → EReal) (ix2 i j) = ((N.w1 i j : ℝ) : EReal)
  b1 : ∀ j, (V (Proc.devRef .tc main_arg3) : S64.Idx → EReal) (ix1 j) = ((N.b1 j : ℝ) : EReal)
  w2 : ∀ i j, (V (Proc.devRef .tc main_arg4) : S64x64.Idx → EReal) (ix2 i j) = ((N.w2 i j : ℝ) : EReal)
  b2 : ∀ j, (V (Proc.devRef .tc main_arg5) : S64.Idx → EReal) (ix1 j) = ((N.b2 j : ℝ) : EReal)
  w3 : ∀ j, (V (Proc.devRef .tc main_arg6) : S64x1.Idx → EReal) (ix2 j 0) = ((N.w3 j : ℝ) : EReal)

variable {V : Valuation τ sig (Elt Ideal)} {p : Fin 64 → ℕ → Fin 3 → ℝ} {N : Net}

namespace Chain

theorem at_v5 (H : Chain V p N) (b : Fin 64) (s : Fin 510) (j c : Fin 3) :
    (fin V main_v5 : S64x510x3x3.Idx → EReal) (ix4 b s j c) = ((p b (s.val + j.val) c : ℝ) : EReal) := by
  unfold fin
  after_reads_simp
  pointwise
  exact H.pos b s j c

theorem at_v24 : (fin V main_v24 : S_.Idx → EReal) ix0 = ((1 / 10 : ℝ) : EReal) := by
  unfold fin
  after_reads_simp
  pointwise
  simp only [ten_lit, ← EReal.coe_one]
  exact div_real _ _ (by norm_num)

/-- The two edges of each spring, component by component, and the edges as they are computed again. -/
theorem at_edges (H : Chain V p N) (b : Fin 64) (s : Fin 510) :
    ((fin V main_v25 : S64x510.Idx → EReal) (ix2 b s) = ((edge (p b) s 0 : ℝ) : EReal) ∧
      (fin V main_v26 : S64x510.Idx → EReal) (ix2 b s) = ((edge (p b) s 1 : ℝ) : EReal) ∧
      (fin V main_v27 : S64x510.Idx → EReal) (ix2 b s) = ((edge (p b) s 2 : ℝ) : EReal)) ∧
    ((fin V main_v38 : S64x510.Idx → EReal) (ix2 b s) = ((edge (p b) (s + 1) 0 : ℝ) : EReal) ∧
      (fin V main_v39 : S64x510.Idx → EReal) (ix2 b s) = ((edge (p b) (s + 1) 1 : ℝ) : EReal) ∧
      (fin V main_v40 : S64x510.Idx → EReal) (ix2 b s) = ((edge (p b) (s + 1) 2 : ℝ) : EReal)) ∧
    ((fin V main_v62 : S64x510.Idx → EReal) (ix2 b s) = ((edge (p b) s 0 : ℝ) : EReal) ∧
      (fin V main_v63 : S64x510.Idx → EReal) (ix2 b s) = ((edge (p b) s 1 : ℝ) : EReal) ∧
      (fin V main_v64 : S64x510.Idx → EReal) (ix2 b s) = ((edge (p b) s 2 : ℝ) : EReal)) ∧
    ((fin V main_v65 : S64x510.Idx → EReal) (ix2 b s) = ((edge (p b) (s + 1) 0 : ℝ) : EReal) ∧
      (fin V main_v66 : S64x510.Idx → EReal) (ix2 b s) = ((edge (p b) (s + 1) 1 : ℝ) : EReal) ∧
      (fin V main_v67 : S64x510.Idx → EReal) (ix2 b s) = ((edge (p b) (s + 1) 2 : ℝ) : EReal)) := by
  refine ⟨⟨?_, ?_, ?_⟩, ⟨?_, ?_, ?_⟩, ⟨?_, ?_, ?_⟩, ?_, ?_, ?_⟩ <;>
    (unfold fin
     after_reads_simp [stable (r := main_v5)]
     pointwise
     simp only [H.at_v5, ← EReal.coe_sub]
     rfl)

/-- The guarded lengths. -/
theorem at_lens (H : Chain V p N) (b : Fin 64) (s : Fin 510) :
    (fin V main_v35 : S64x510.Idx → EReal) (ix2 b s) = ((len (edge (p b) s) : ℝ) : EReal) ∧
    (fin V main_v48 : S64x510.Idx → EReal) (ix2 b s) = ((len (edge (p b) (s + 1)) : ℝ) : EReal) ∧
    (fin V main_v96 : S64x510.Idx → EReal) (ix2 b s) = ((len (edge (p b) s) : ℝ) : EReal) ∧
    (fin V main_v106 : S64x510.Idx → EReal) (ix2 b s) = ((len (edge (p b) (s + 1)) : ℝ) : EReal) := by
  obtain ⟨⟨a0, a1, a2⟩, ⟨b0, b1, b2⟩, ⟨c0, c1, c2⟩, d0, d1, d2⟩ := H.at_edges b s
  refine ⟨?_, ?_, ?_, ?_⟩ <;>
    (unfold fin
     after_reads_simp [stable (r := main_v25), stable (r := main_v26), stable (r := main_v27),
       stable (r := main_v38), stable (r := main_v39), stable (r := main_v40),
       stable (r := main_v62), stable (r := main_v63), stable (r := main_v64),
       stable (r := main_v65), stable (r := main_v66), stable (r := main_v67)]
     pointwise
     simp only [a0, a1, a2, b0, b1, b2, c0, c1, c2, d0, d1, d2, tiny_lit, ← EReal.coe_mul, ← EReal.coe_add]
     exact sqrt_real _ (square_pos _).le)

/-- Half the reciprocal lengths. -/
theorem at_recips (H : Chain V p N) (b : Fin 64) (s : Fin 510) :
    (fin V main_v37 : S64x510.Idx → EReal) (ix2 b s) = ((1 / 2 / len (edge (p b) s) : ℝ) : EReal) ∧
    (fin V main_v50 : S64x510.Idx → EReal) (ix2 b s) = ((1 / 2 / len (edge (p b) (s + 1)) : ℝ) : EReal) ∧
    (fin V main_v98 : S64x510.Idx → EReal) (ix2 b s) = ((1 / 2 / len (edge (p b) s) : ℝ) : EReal) ∧
    (fin V main_v108 : S64x510.Idx → EReal) (ix2 b s) = ((1 / 2 / len (edge (p b) (s + 1)) : ℝ) : EReal) := by
  obtain ⟨h0, h1, h2, h3⟩ := H.at_lens b s
  refine ⟨?_, ?_, ?_, ?_⟩ <;>
    (unfold fin
     after_reads_simp [stable (r := main_v35), stable (r := main_v48), stable (r := main_v96),
       stable (r := main_v106)]
     pointwise
     simp only [h0, h1, h2, h3, half_lit]
     exact div_real _ _ (len_pos _).ne')

/-- The vector product of the two edges. -/
theorem at_cross (H : Chain V p N) (b : Fin 64) (s : Fin 510) :
    (fin V main_v70 : S64x510.Idx → EReal) (ix2 b s) = ((cr (edge (p b) s) (edge (p b) (s + 1)) 0 : ℝ) : EReal) ∧
    (fin V main_v73 : S64x510.Idx → EReal) (ix2 b s) = ((cr (edge (p b) s) (edge (p b) (s + 1)) 1 : ℝ) : EReal) ∧
    (fin V main_v76 : S64x510.Idx → EReal) (ix2 b s) = ((cr (edge (p b) s) (edge (p b) (s + 1)) 2 : ℝ) : EReal) := by
  obtain ⟨-, -, ⟨c0, c1, c2⟩, d0, d1, d2⟩ := H.at_edges b s
  refine ⟨?_, ?_, ?_⟩ <;>
    (unfold fin
     after_reads_simp [stable (r := main_v62), stable (r := main_v63), stable (r := main_v64),
       stable (r := main_v65), stable (r := main_v66), stable (r := main_v67)]
     pointwise
     simp only [c0, c1, c2, d0, d1, d2, ← EReal.coe_mul, ← EReal.coe_sub]
     rfl)

/-- The vector product's guarded length and what is formed from it. -/
theorem at_area (H : Chain V p N) (b : Fin 64) (s : Fin 510) :
    (fin V main_v84 : S64x510.Idx → EReal) (ix2 b s) =
      ((len (cr (edge (p b) s) (edge (p b) (s + 1))) : ℝ) : EReal) := by
  obtain ⟨h0, h1, h2⟩ := H.at_cross b s
  unfold fin
  after_reads_simp [stable (r := main_v70), stable (r := main_v73), stable (r := main_v76)]
  pointwise
  simp only [h0, h1, h2, tiny_lit, ← EReal.coe_mul, ← EReal.coe_add]
  exact sqrt_real _ (square_pos _).le

theorem at_v86 (H : Chain V p N) (b : Fin 64) (s : Fin 510) :
    (fin V main_v86 : S64x510.Idx → EReal) (ix2 b s) =
      ((1 / 2 / len (cr (edge (p b) s) (edge (p b) (s + 1))) : ℝ) : EReal) := by
  unfold fin
  after_reads_simp [stable (r := main_v84)]
  pointwise
  simp only [H.at_area, half_lit]
  exact div_real _ _ (len_pos _).ne'

theorem at_v88 (H : Chain V p N) (b : Fin 64) (s : Fin 510) :
    (fin V main_v88 : S64x510.Idx → EReal) (ix2 b s) =
      ((2 * len (cr (edge (p b) s) (edge (p b) (s + 1))) : ℝ) : EReal) := by
  unfold fin
  after_reads_simp [stable (r := main_v84)]
  pointwise
  simp only [H.at_area, two_lit, ← EReal.coe_mul]

/-- The bend's denominator. -/
theorem at_den (H : Chain V p N) (b : Fin 64) (s : Fin 510) :
    (fin V main_v117 : S64x510.Idx → EReal) (ix2 b s) =
      ((den (edge (p b) s) (edge (p b) (s + 1)) : ℝ) : EReal) := by
  obtain ⟨-, -, ⟨c0, c1, c2⟩, d0, d1, d2⟩ := H.at_edges b s
  obtain ⟨-, -, h2, h3⟩ := H.at_lens b s
  unfold fin
  after_reads_simp [stable (r := main_v62), stable (r := main_v63), stable (r := main_v64),
    stable (r := main_v65), stable (r := main_v66), stable (r := main_v67), stable (r := main_v96),
    stable (r := main_v106)]
  pointwise
  simp only [c0, c1, c2, d0, d1, d2, h2, h3, small_lit, ← EReal.coe_mul, ← EReal.coe_add]
  rfl

theorem at_v121 (H : Chain V p N) (b : Fin 64) (s : Fin 510) :
    (fin V main_v121 : S64x510.Idx → EReal) (ix2 b s) =
      ((1 / (den (edge (p b) s) (edge (p b) (s + 1)) * den (edge (p b) s) (edge (p b) (s + 1))) : ℝ) : EReal) := by
  unfold fin
  after_reads_simp [stable (r := main_v117)]
  pointwise
  simp only [H.at_den, ← EReal.coe_mul, ← EReal.coe_one]
  exact div_real _ _ (mul_pos (den_pos _ _) (den_pos _ _)).ne'

/-- The stretch. -/
theorem at_v61 (H : Chain V p N) (b : Fin 64) (s : Fin 510) :
    (fin V main_v61 : S64x510.Idx → EReal) (ix2 b s) =
      ((stretch (edge (p b) s) (edge (p b) (s + 1)) : ℝ) : EReal) := by
  obtain ⟨h0, h1, -, -⟩ := H.at_lens b s
  unfold fin
  after_reads_simp [stable (r := main_v35), stable (r := main_v48), stable (r := main_v24)]
  pointwise
  simp only [h0, h1, at_v24, half_lit, ← EReal.coe_sub, div_real _ (1 / 10) (by norm_num), ← EReal.coe_mul,
    ← EReal.coe_add]
  rfl

/-- The bend. -/
theorem at_v123 (H : Chain V p N) (b : Fin 64) (s : Fin 510) :
    (fin V main_v123 : S64x510.Idx → EReal) (ix2 b s) =
      ((bend (edge (p b) s) (edge (p b) (s + 1)) : ℝ) : EReal) := by
  unfold fin
  after_reads_simp [stable (r := main_v88), stable (r := main_v117), stable (r := main_v24)]
  pointwise
  simp only [H.at_v88, H.at_den, at_v24, div_real _ (1 / 10) (by norm_num), div_real _ _ (den_pos _ _).ne']
  rfl

end Chain

end Cert.Elastic
-- ==== Proof.Cols.lean ====
/- Gathers and scatters of whole columns by one index word each, read at an index. -/
module

public import proofs.«01_k».proof.Defs
public import Idealize.ShloMosaic.Lib.Routing.OpsPair
public import Idealize.ShloMosaic.Lib.Pointwise

@[expose] public section

namespace Cert.Elastic

open Idealize.ShloMosaic Idealize.ShloMosaic.Routing

/-- The scatter of `K` columns into the `N` columns of a matrix of `R` rows. -/
abbrev putCols (R N K : ℕ) (wf : ScatterDims.WF (shape2 R N) (shape2 K 1) (shape2 R K) [0] [1] [1] 1) :
    ScatterDims (shape2 R N) (shape2 K 1) (shape2 R K) where
  updateWindowDims := [0]
  insertedWindowDims := [1]
  scatterDimsToOperandDims := [1]
  indexVectorDim := 1
  wf := wf

/-- Column `k` of the updates lands at the column its index word names, in the same row. -/
theorem putCols_lands {R N K w : ℕ} (wf : ScatterDims.WF (shape2 R N) (shape2 K 1) (shape2 R K) [0] [1] [1] 1)
    (idx : IVec (shape2 K 1) w) (b' : Fin R) (k : Fin K) (b : Fin R) (d : Fin N) :
    (putCols R N K wf).resultIdx? (ix2 b' k) idx = some (ix2 b d) ↔ b' = b ∧ (idx (ix2 k 0)).toInt = (d.val : Int) := by
  refine (resultIdx?_ix2 (putCols R N K wf) (ix2 b' k) idx b d).trans ?_
  have s0 : (putCols R N K wf).start (ix2 b' k) idx 0 = 0 := rfl
  have w0 : (putCols R N K wf).window (ix2 b' k) 0 = b'.val := rfl
  have w1 : (putCols R N K wf).window (ix2 b' k) 1 = 0 := rfl
  have s1 : (putCols R N K wf).start (ix2 b' k) idx 1 = (idx (ix2 k 0)).toInt := by
    unfold ScatterDims.start
    rw [dif_pos (show (1 : Fin 2) ∈ (putCols R N K wf).scatterDimsToOperandDims from List.mem_singleton.mpr rfl)]
    congr 2
    funext a
    refine Fin.ext ?_
    match a with
    | ⟨0, _⟩ => rfl
    | ⟨1, _⟩ => rfl
  rw [s0, w0, w1, s1, Fin.ext_iff]
  omega

/-- The gather of `K` columns out of the `N` columns of a matrix of `R` rows. -/
abbrev takeCols (R N K : ℕ)
    (wf : GatherDims.WF (shape2 R N) (shape2 K 1) (shape2 R K) [0] [1] [] [1] [] 1 ![R, 1]) :
    GatherDims (shape2 R N) (shape2 K 1) (shape2 R K) where
  offsetDims := [0]
  collapsedSliceDims := [1]
  operandBatchingDims := []
  startIndicesBatchingDims := []
  startIndexMap := [1]
  indexVectorDim := 1
  sliceSizes := ![R, 1]
  wf := wf

/-- Column `k` of the gather is the column its index word names, clamped into range. -/
theorem takeCols_at {α : Type} {R N K w : ℕ} (hN : 0 < N)
    (wf : GatherDims.WF (shape2 R N) (shape2 K 1) (shape2 R K) [0] [1] [] [1] [] 1 ![R, 1])
    (x : (shape2 R N).Idx → α) (idx : IVec (shape2 K 1) w) (b : Fin R) (k : Fin K) :
    Host.gather (takeCols R N K wf) x idx (ix2 b k) =
      x (ix2 b ⟨min (idx (ix2 k 0)).toInt.toNat (N - 1), by omega⟩) := by
  unfold Host.gather
  congr 1
  funext a
  refine Fin.ext ?_
  match a with
  | ⟨0, _⟩ =>
    show 0 + 0 + b.val = b.val
    omega
  | ⟨1, _⟩ =>
    show (takeCols R N K wf).start (ix2 b k) idx 1 + 0 + 0 = _
    unfold GatherDims.start
    rw [dif_pos (show (1 : Fin 2) ∈ (takeCols R N K wf).startIndexMap from List.mem_singleton.mpr rfl)]
    have hsi : (takeCols R N K wf).siIdx (ix2 b k) ⟨List.idxOf (1 : Fin 2) (takeCols R N K wf).startIndexMap,
        List.idxOf_lt_length_iff.2 (List.mem_singleton.mpr rfl)⟩ = ix2 k 0 := by
      funext c
      refine Fin.ext ?_
      match c with
      | ⟨0, _⟩ => rfl
      | ⟨1, _⟩ => rfl
    rw [hsi]
    rfl

/-- The gather of `K` rows of the middle axis of an array `R × N × C`. -/
abbrev takeMid (R N C K : ℕ)
    (wf : GatherDims.WF ⟨3, ![R, N, C]⟩ ⟨2, ![K, 1]⟩ ⟨3, ![R, K, C]⟩ [0, 2] [1] [] [1] [] 1 ![R, 1, C]) :
    GatherDims ⟨3, ![R, N, C]⟩ ⟨2, ![K, 1]⟩ ⟨3, ![R, K, C]⟩ where
  offsetDims := [0, 2]
  collapsedSliceDims := [1]
  operandBatchingDims := []
  startIndicesBatchingDims := []
  startIndexMap := [1]
  indexVectorDim := 1
  sliceSizes := ![R, 1, C]
  wf := wf

/-- Entry `(b, k, c)` of that gather is the entry at `(b, n, c)`, `n` the index word `k`, clamped into range. -/
theorem takeMid_at {α : Type} {R N C K w : ℕ} (hN : 0 < N)
    (wf : GatherDims.WF ⟨3, ![R, N, C]⟩ ⟨2, ![K, 1]⟩ ⟨3, ![R, K, C]⟩ [0, 2] [1] [] [1] [] 1 ![R, 1, C])
    (x : (⟨3, ![R, N, C]⟩ : Shape).Idx → α) (idx : IVec ⟨2, ![K, 1]⟩ w) (b : Fin R) (k : Fin K) (c : Fin C) :
    Host.gather (takeMid R N C K wf) x idx (ix3 b k c) =
      x (ix3 b ⟨min (idx (ix2 k 0)).toInt.toNat (N - 1), by omega⟩ c) := by
  unfold Host.gather
  congr 1
  funext a
  refine Fin.ext ?_
  match a with
  | ⟨0, _⟩ =>
    show 0 + 0 + b.val = b.val
    omega
  | ⟨2, _⟩ =>
    show 0 + 0 + c.val = c.val
    omega
  | ⟨1, _⟩ =>
    show (takeMid R N C K wf).start (ix3 b k c) idx 1 + 0 + 0 = _
    unfold GatherDims.start
    rw [dif_pos (show (1 : Fin 3) ∈ (takeMid R N C K wf).startIndexMap from List.mem_singleton.mpr rfl)]
    have hsi : (takeMid R N C K wf).siIdx (ix3 b k c) ⟨List.idxOf (1 : Fin 3) (takeMid R N C K wf).startIndexMap,
        List.idxOf_lt_length_iff.2 (List.mem_singleton.mpr rfl)⟩ = ix2 k 0 := by
      funext c'
      refine Fin.ext ?_
      match c' with
      | ⟨0, _⟩ => rfl
      | ⟨1, _⟩ => rfl
    rw [hsi]
    rfl

end Cert.Elastic
-- ==== Proof.RefGather.lean ====
/- What the reference's first lines leave for the force region: the nodes gathered through the springs' node list, and
   the velocities. -/
module

public import proofs.«01_k».proof.Proof.RefForce
public import proofs.«01_k».proof.Proof.Cols
public import proofs.«01_k».proof.Proof.Data

@[expose] public section

set_option maxRecDepth 100000
set_option Elab.async false

namespace Cert.Elastic

open Idealize.ShloMosaic Idealize.ShloMosaic.TcCoe Idealize.ShloMosaic.StableHlo
open Idealize.SL.Sem
open Cert.ReferenceIdeal Cert.ReferenceIdeal.Gen Cert.ReferenceIdeal.Value

/-- The valuation the force region starts from. -/
noncomputable def opened (W : Valuation τ sig (Elt Ideal)) : Valuation τ sig (Elt Ideal) :=
  after hostOps0_1 (after hostOps0 W)

variable {W : Valuation τ sig (Elt Ideal)}

/-- The nodes as rows of three. -/
theorem opened_nodes (b : Fin 64) (n : Fin 512) (c : Fin 3) :
    (after hostOps0 W (Proc.devRef .tc main_v2) : S64x512x3.Idx → EReal) (ix3 b n c) =
      (W (Proc.devRef .tc main_arg1) : S64x3072.Idx → EReal) (ix2 b ⟨n.val * 3 + c.val, by omega⟩) := by
  after_reads_simp
  pointwise

/-- The velocities. -/
theorem opened_speeds (b : Fin 64) (d : Fin 1536) :
    (opened W (Proc.devRef .tc main_v1) : S64x1536.Idx → EReal) (ix2 b d) =
      (W (Proc.devRef .tc main_arg1) : S64x3072.Idx → EReal) (ix2 b ⟨1536 + d.val, by omega⟩) := by
  unfold opened
  after_reads_simp
  pointwise

/-- The springs' node list, laid out as one column. -/
theorem opened_list (s : Fin 510) (j : Fin 3) :
    (broadcastInDim S1530x1 ![0] bcast_S1530_S1530x1_0
      (after hostOps0 W (Proc.devRef .tc main_v3) : S1530.Idx → BitVec 32) : S1530x1.Idx → BitVec 32)
      (ix2 ⟨s.val * 3 + j.val, by omega⟩ 0) =
      (W (Proc.devRef .tc main_arg8) : S510x3.Idx → BitVec 32) (ix2 s j) := by
  after_reads_simp
  pointwise
  exact congrArg _ (congrArg₂ ix2 (Fin.ext (by simp only []; omega)) (Fin.ext (by simp only []; omega)))

theorem opened_gather : (opened W (Proc.devRef .tc main_v4) : S64x1530x3.Idx → EReal) =
    Host.gather gather_S64x512x3_S1530x1_S64x1530x3_02_1_n_n_1_1_6413
      (after hostOps0 W (Proc.devRef .tc main_v2) : S64x512x3.Idx → EReal)
      (broadcastInDim S1530x1 ![0] bcast_S1530_S1530x1_0
        (after hostOps0 W (Proc.devRef .tc main_v3) : S1530.Idx → BitVec 32)) := by
  unfold opened
  generalize after hostOps0 W = U
  after_reads_simp
  rfl

/-- A small word reads back as the number it was made of. -/
theorem word_small (n : ℕ) (h : n < 4096) : (BitVec.ofNat 32 n).toInt = (n : Int) := by
  rw [BitVec.toInt_eq_toNat_of_lt (by rw [BitVec.toNat_ofNat]; omega), BitVec.toNat_ofNat]
  omega

theorem opened_points (hs : ∀ (s : Fin 510) (j : Fin 3),
      (W (Proc.devRef .tc main_arg8) : S510x3.Idx → BitVec 32) (ix2 s j) = BitVec.ofNat 32 (s.val + j.val))
    (b : Fin 64) (s : Fin 510) (j c : Fin 3) :
    (opened W (Proc.devRef .tc main_v4) : S64x1530x3.Idx → EReal) (ix3 b ⟨s.val * 3 + j.val, by omega⟩ c) =
      (W (Proc.devRef .tc main_arg1) : S64x3072.Idx → EReal) (ix2 b ⟨(s.val + j.val) * 3 + c.val, by omega⟩) := by
  rw [opened_gather]
  refine (takeMid_at (by norm_num) gather_S64x512x3_S1530x1_S64x1530x3_02_1_n_n_1_1_6413.wf _ _ b _ c).trans ?_
  rw [opened_nodes]
  refine congrArg _ (congrArg₂ ix2 rfl (Fin.ext ?_))
  have e := opened_list (W := W) s j
  rw [hs, ← BitVec.toInt_inj, word_small _ (show s.val + j.val < 4096 by omega)] at e
  simp only [e]
  omega

theorem opened_kept (r : Ref sig .tc) (h0 : r ∉ hostOps0_W) (h1 : r ∉ hostOps0_1_W) :
    opened W (Proc.devRef .tc r) = W (Proc.devRef .tc r) :=
  (after_unwritten hostOps0_1_W rfl h1 _).trans (after_unwritten hostOps0_W rfl h0 _)

/-- The force region starts from the nodes of the state and the network of the weights. -/
theorem opened_chain (hs : ∀ (s : Fin 510) (j : Fin 3),
      (W (Proc.devRef .tc main_arg8) : S510x3.Idx → BitVec 32) (ix2 s j) = BitVec.ofNat 32 (s.val + j.val))
    (hR : AllReal (W (Proc.devRef .tc main_arg1)) (W (Proc.devRef .tc main_arg2)) (W (Proc.devRef .tc main_arg3))
      (W (Proc.devRef .tc main_arg4)) (W (Proc.devRef .tc main_arg5)) (W (Proc.devRef .tc main_arg6))) :
    Chain (opened W) (nodes (W (Proc.devRef .tc main_arg1)))
      (netOf (W (Proc.devRef .tc main_arg2)) (W (Proc.devRef .tc main_arg3)) (W (Proc.devRef .tc main_arg4))
        (W (Proc.devRef .tc main_arg5)) (W (Proc.devRef .tc main_arg6))) where
  pos := fun b s j c => by
    rw [opened_points hs b s j c, hR.x b _ (by simp only []; omega)]
    unfold nodes
    rw [dif_pos (show s.val + j.val < 512 by omega)]
  w1 := fun i j => by rw [opened_kept main_arg2 (by decide) (by decide)]; exact hR.w1 i j
  b1 := fun j => by rw [opened_kept main_arg3 (by decide) (by decide)]; exact hR.b1 j
  w2 := fun i j => by rw [opened_kept main_arg4 (by decide) (by decide)]; exact hR.w2 i j
  b2 := fun j => by rw [opened_kept main_arg5 (by decide) (by decide)]; exact hR.b2 j
  w3 := fun j => by rw [opened_kept main_arg6 (by decide) (by decide)]; exact hR.w3 j

end Cert.Elastic
-- ==== Proof.RefNet.lean ====
/- The reference's energy network and its slopes, read at one batch and one spring. -/
module

public import proofs.«01_k».proof.Proof.RefForce

@[expose] public section

set_option maxRecDepth 100000
set_option Elab.async false

namespace Cert.Elastic

open Idealize.ShloMosaic Idealize.ShloMosaic.TcCoe Idealize.ShloMosaic.StableHlo
open Idealize.SL.Sem
open Cert.ReferenceIdeal Cert.ReferenceIdeal.Gen Cert.ReferenceIdeal.Value

variable {V : Valuation τ sig (Elt Ideal)} {p : Fin 64 → ℕ → Fin 3 → ℝ} {N : Net}

/-- The reference's softplus of a real. -/
theorem soft_read (h : ℝ) :
    (if ((h : ℝ) : EReal) ≠ (h : EReal) then (h : EReal)
      else max (h : EReal) 0 + Ideal.log1p (Ideal.exp (-FloatOps.absf (F := Ideal) (φ := .f32) (h : EReal)))) =
      ((soft h : ℝ) : EReal) := by
  rw [if_neg (not_not.mpr rfl), abs_real, ← EReal.coe_neg, Ideal.exp_coe,
    log1p_real _ (by positivity), ← EReal.coe_zero, max_real, ← EReal.coe_add]
  rfl

/-- The reference's sigmoid of a real, an exponential of a difference. -/
theorem sigm_read (h y : ℝ) (hy : y = soft h) :
    Ideal.exp ((if (h : EReal) = Ideal.ofBits FTy.f32 0x7F800000#32 then 0 else (h : EReal)) -
      if (y : EReal) = Ideal.ofBits FTy.f32 0x7F800000#32 then 0 else (y : EReal)) = ((sigm h : ℝ) : EReal) := by
  subst hy
  rw [inf_lit, if_neg (EReal.coe_ne_top _), if_neg (EReal.coe_ne_top _), ← EReal.coe_sub, Ideal.exp_coe, exp_sub_soft]

namespace Chain

/-- The strains of batch `b`'s spring `s`. -/
noncomputable abbrev str (p : Fin 64 → ℕ → Fin 3 → ℝ) (b : Fin 64) (s : Fin 510) : ℝ :=
  stretch (edge (p b) s) (edge (p b) (s + 1))

noncomputable abbrev bnd (p : Fin 64 → ℕ → Fin 3 → ℝ) (b : Fin 64) (s : Fin 510) : ℝ :=
  bend (edge (p b) s) (edge (p b) (s + 1))

theorem at_v126 (H : Chain V p N) (b : Fin 64) (s : Fin 510) :
    (fin V main_v126 : S64x510x2.Idx → EReal) (ix3 b s 0) = ((str p b s : ℝ) : EReal) ∧
    (fin V main_v126 : S64x510x2.Idx → EReal) (ix3 b s 1) = ((bnd p b s : ℝ) : EReal) := by
  have h124 : (fin V main_v124 : S64x510x1.Idx → EReal) (ix3 b s 0) = ((str p b s : ℝ) : EReal) := by
    unfold fin
    after_reads_simp [stable (r := main_v61)]
    pointwise
    exact H.at_v61 b s
  have h125 : (fin V main_v125 : S64x510x1.Idx → EReal) (ix3 b s 0) = ((bnd p b s : ℝ) : EReal) := by
    unfold fin
    after_reads_simp [stable (r := main_v123)]
    pointwise
    exact H.at_v123 b s
  refine ⟨?_, ?_⟩
  · unfold fin
    after_reads_simp [stable (r := main_v124), stable (r := main_v125)]
    pointwise
    exact h124
  · unfold fin
    after_reads_simp [stable (r := main_v124), stable (r := main_v125)]
    pointwise
    exact h125

theorem at_v130 (H : Chain V p N) (b : Fin 64) (s : Fin 510) (j : Fin 64) :
    (fin V main_v130 : S64x510x64.Idx → EReal) (ix3 b s j) = ((N.pre1 (str p b s) (bnd p b s) j : ℝ) : EReal) := by
  obtain ⟨h0, h1⟩ := H.at_v126 b s
  unfold fin
  after_reads_simp [stable (r := main_v126)]
  pointwise
  rw [Fin.sum_univ_two]
  simp only [h0, h1, H.w1, H.b1, ← EReal.coe_mul, ← EReal.coe_add]
  rfl

theorem at_v143 (H : Chain V p N) (b : Fin 64) (s : Fin 510) (j : Fin 64) :
    (fin V main_v143 : S64x510x64.Idx → EReal) (ix3 b s j) =
      ((soft (N.pre1 (str p b s) (bnd p b s) j) : ℝ) : EReal) := by
  unfold fin
  after_reads_simp [stable (r := main_v130)]
  pointwise
  simp only [H.at_v130]
  exact soft_read _

theorem at_v153 (H : Chain V p N) (b : Fin 64) (s : Fin 510) (j : Fin 64) :
    (fin V main_v153 : S64x510x64.Idx → EReal) (ix3 b s j) =
      ((sigm (N.pre1 (str p b s) (bnd p b s) j) : ℝ) : EReal) := by
  unfold fin
  after_reads_simp [stable (r := main_v130), stable (r := main_v143)]
  pointwise
  simp only [H.at_v130, H.at_v143]
  exact sigm_read _ _ rfl

theorem at_v168 (H : Chain V p N) (b : Fin 64) (s : Fin 510) (j : Fin 64) :
    (fin V main_v168 : S64x510x64.Idx → EReal) (ix3 b s j) = ((N.pre2 (str p b s) (bnd p b s) j : ℝ) : EReal) := by
  unfold fin
  after_reads_simp [stable (r := main_v143)]
  pointwise
  simp only [H.at_v143, H.w2, H.b2, ← EReal.coe_mul, sum_real, ← EReal.coe_add]
  rfl

theorem at_v181 (H : Chain V p N) (b : Fin 64) (s : Fin 510) (j : Fin 64) :
    (fin V main_v181 : S64x510x64.Idx → EReal) (ix3 b s j) =
      ((soft (N.pre2 (str p b s) (bnd p b s) j) : ℝ) : EReal) := by
  unfold fin
  after_reads_simp [stable (r := main_v168)]
  pointwise
  simp only [H.at_v168]
  exact soft_read _

theorem at_v191 (H : Chain V p N) (b : Fin 64) (s : Fin 510) (j : Fin 64) :
    (fin V main_v191 : S64x510x64.Idx → EReal) (ix3 b s j) =
      ((sigm (N.pre2 (str p b s) (bnd p b s) j) : ℝ) : EReal) := by
  unfold fin
  after_reads_simp [stable (r := main_v168), stable (r := main_v181)]
  pointwise
  simp only [H.at_v168, H.at_v181]
  exact sigm_read _ _ rfl

theorem at_v210 (H : Chain V p N) (b : Fin 64) (s : Fin 510) (j : Fin 64) :
    (fin V main_v210 : S64x510x64.Idx → EReal) (ix3 b s j) = ((N.back2 (str p b s) (bnd p b s) j : ℝ) : EReal) := by
  unfold fin
  after_reads_simp [stable (r := main_v191)]
  pointwise
  simp only [H.at_v191, Finset.univ_unique, Fin.default_eq_zero, Fin.isValue, Finset.sum_singleton, H.w3, one_mul,
    ← EReal.coe_mul]
  rw [mul_comm]
  rfl

theorem at_v212 (H : Chain V p N) (b : Fin 64) (s : Fin 510) (j : Fin 64) :
    (fin V main_v212 : S64x510x64.Idx → EReal) (ix3 b s j) = ((N.back1 (str p b s) (bnd p b s) j : ℝ) : EReal) := by
  unfold fin
  after_reads_simp [stable (r := main_v210), stable (r := main_v153)]
  pointwise
  simp only [H.at_v210, H.at_v153, H.w2, ← EReal.coe_mul, sum_real]
  rw [mul_comm]
  unfold Net.back1
  simp only [mul_comm]

/-- The network's slope in the stretch and in the bend. -/
theorem at_slopes (H : Chain V p N) (b : Fin 64) (s : Fin 510) :
    (fin V main_v215 : S64x510.Idx → EReal) (ix2 b s) = ((pulls N (p b) s 0 : ℝ) : EReal) ∧
    (fin V main_v217 : S64x510.Idx → EReal) (ix2 b s) = ((pulls N (p b) s 1 : ℝ) : EReal) := by
  refine ⟨?_, ?_⟩ <;>
    (unfold fin
     after_reads_simp [stable (r := main_v212)]
     pointwise
     simp only [H.at_v212, H.w1, ← EReal.coe_mul, sum_real]
     unfold pulls Net.slope
     simp only [mul_comm])

end Chain

end Cert.Elastic
-- ==== Proof.RefGrad.lean ====
/- The reference's gradients at a spring's three nodes. -/
module

public import proofs.«01_k».proof.Proof.RefNet

@[expose] public section

set_option maxRecDepth 100000
set_option Elab.async false

namespace Cert.Elastic

open Idealize.ShloMosaic Idealize.ShloMosaic.TcCoe Idealize.ShloMosaic.StableHlo
open Idealize.SL.Sem
open Cert.ReferenceIdeal Cert.ReferenceIdeal.Gen Cert.ReferenceIdeal.Value

variable {V : Valuation τ sig (Elt Ideal)} {p : Fin 64 → ℕ → Fin 3 → ℝ} {N : Net}

namespace Chain

theorem at_v222 (H : Chain V p N) (b : Fin 64) (s : Fin 510) :
    (fin V main_v222 : S64x510.Idx → EReal) (ix2 b s) =
      ((- shear (pulls N (p b) s 1) (edge (p b) s) (edge (p b) (s + 1)) : ℝ) : EReal) := by
  obtain ⟨-, h1⟩ := H.at_slopes b s
  unfold fin
  after_reads_simp [stable (r := main_v217), stable (r := main_v24), stable (r := main_v121), stable (r := main_v88)]
  pointwise
  simp only [h1, at_v24, H.at_v121, H.at_v88, div_real _ (1 / 10) (by norm_num), ← EReal.coe_mul, ← EReal.coe_neg]
  unfold shear
  congr 1
  have := den_pos (edge (p b) s) (edge (p b) (s + 1))
  field_simp
  ring

theorem at_v223 (H : Chain V p N) (b : Fin 64) (s : Fin 510) :
    (fin V main_v223 : S64x510.Idx → EReal) (ix2 b s) =
      ((pulls N (p b) s 1 * 10 / den (edge (p b) s) (edge (p b) (s + 1)) : ℝ) : EReal) := by
  obtain ⟨-, h1⟩ := H.at_slopes b s
  unfold fin
  after_reads_simp [stable (r := main_v217), stable (r := main_v24), stable (r := main_v117)]
  pointwise
  simp only [h1, at_v24, H.at_den, div_real _ (1 / 10) (by norm_num), div_real _ _ (den_pos _ _).ne']
  congr 2
  ring

/-- The vector product scaled by the bend's slope. -/
theorem at_turns (H : Chain V p N) (b : Fin 64) (s : Fin 510) :
    (fin V main_v269 : S64x510.Idx → EReal) (ix2 b s) =
      ((turn (pulls N (p b) s 1) (edge (p b) s) (edge (p b) (s + 1)) *
        cr (edge (p b) s) (edge (p b) (s + 1)) 0 : ℝ) : EReal) ∧
    (fin V main_v266 : S64x510.Idx → EReal) (ix2 b s) =
      ((turn (pulls N (p b) s 1) (edge (p b) s) (edge (p b) (s + 1)) *
        cr (edge (p b) s) (edge (p b) (s + 1)) 1 : ℝ) : EReal) ∧
    (fin V main_v263 : S64x510.Idx → EReal) (ix2 b s) =
      ((turn (pulls N (p b) s 1) (edge (p b) s) (edge (p b) (s + 1)) *
        cr (edge (p b) s) (edge (p b) (s + 1)) 2 : ℝ) : EReal) := by
  obtain ⟨h0, h1, h2⟩ := H.at_cross b s
  have hd := den_pos (edge (p b) s) (edge (p b) (s + 1))
  have hl := len_pos (cr (edge (p b) s) (edge (p b) (s + 1)))
  refine ⟨?_, ?_, ?_⟩ <;>
    (unfold fin
     after_reads_simp [stable (r := main_v223), stable (r := main_v86), stable (r := main_v70),
       stable (r := main_v73), stable (r := main_v76)]
     pointwise
     simp only [h0, h1, h2, H.at_v223, H.at_v86, two_lit, ← EReal.coe_mul, ← EReal.coe_add]
     unfold turn
     congr 1
     field_simp
     ring)

/-- The scaled lengths from the bend's denominator, and the stretch's scaled slopes. -/
theorem at_scales (H : Chain V p N) (b : Fin 64) (s : Fin 510) :
    (fin V main_v232 : S64x510.Idx → EReal) (ix2 b s) =
      ((- (shear (pulls N (p b) s 1) (edge (p b) s) (edge (p b) (s + 1)) * len (edge (p b) s) *
        (1 / 2 / len (edge (p b) (s + 1)))) : ℝ) : EReal) ∧
    (fin V main_v245 : S64x510.Idx → EReal) (ix2 b s) =
      ((- (shear (pulls N (p b) s 1) (edge (p b) s) (edge (p b) (s + 1)) * len (edge (p b) (s + 1)) *
        (1 / 2 / len (edge (p b) s))) : ℝ) : EReal) ∧
    (fin V main_v312 : S64x510.Idx → EReal) (ix2 b s) =
      ((pulls N (p b) s 0 * 5 * (1 / 2 / len (edge (p b) (s + 1))) : ℝ) : EReal) ∧
    (fin V main_v331 : S64x510.Idx → EReal) (ix2 b s) =
      ((pulls N (p b) s 0 * 5 * (1 / 2 / len (edge (p b) s)) : ℝ) : EReal) := by
  obtain ⟨-, -, l0, l1⟩ := H.at_lens b s
  obtain ⟨r0, r1, r2, r3⟩ := H.at_recips b s
  obtain ⟨s0, -⟩ := H.at_slopes b s
  refine ⟨?_, ?_, ?_, ?_⟩ <;>
    (unfold fin
     after_reads_simp [stable (r := main_v96), stable (r := main_v106), stable (r := main_v222),
       stable (r := main_v98), stable (r := main_v108), stable (r := main_v37), stable (r := main_v50),
       stable (r := main_v24), stable (r := main_v215)]
     pointwise
     simp only [l0, l1, r0, r1, r2, r3, s0, at_v24, H.at_v222, half_lit, div_real _ (1 / 10) (by norm_num),
       ← EReal.coe_mul]
     congr 1
     ring)

set_option maxHeartbeats 4000000 in
/-- The gradients at the three nodes: minus what the spring pulls on them. -/
theorem at_grads (H : Chain V p N) (b : Fin 64) (s : Fin 510) :
    ((fin V main_v349 : S64x510.Idx → EReal) (ix2 b s) = ((- tug N (p b) s 0 0 : ℝ) : EReal) ∧
      (fin V main_v346 : S64x510.Idx → EReal) (ix2 b s) = ((- tug N (p b) s 0 1 : ℝ) : EReal) ∧
      (fin V main_v343 : S64x510.Idx → EReal) (ix2 b s) = ((- tug N (p b) s 0 2 : ℝ) : EReal)) ∧
    ((fin V main_v348 : S64x510.Idx → EReal) (ix2 b s) = ((- tug N (p b) s 1 0 : ℝ) : EReal) ∧
      (fin V main_v345 : S64x510.Idx → EReal) (ix2 b s) = ((- tug N (p b) s 1 1 : ℝ) : EReal) ∧
      (fin V main_v342 : S64x510.Idx → EReal) (ix2 b s) = ((- tug N (p b) s 1 2 : ℝ) : EReal)) ∧
    ((fin V main_v329 : S64x510.Idx → EReal) (ix2 b s) = ((- tug N (p b) s 2 0 : ℝ) : EReal) ∧
      (fin V main_v326 : S64x510.Idx → EReal) (ix2 b s) = ((- tug N (p b) s 2 1 : ℝ) : EReal) ∧
      (fin V main_v323 : S64x510.Idx → EReal) (ix2 b s) = ((- tug N (p b) s 2 2 : ℝ) : EReal)) := by
  obtain ⟨⟨a0, a1, a2⟩, ⟨b0, b1, b2⟩, ⟨c0, c1, c2⟩, d0, d1, d2⟩ := H.at_edges b s
  obtain ⟨t0, t1, t2⟩ := H.at_turns b s
  obtain ⟨k0, k1, k2, k3⟩ := H.at_scales b s
  have hr := len_pos (edge (p b) s)
  have hq := len_pos (edge (p b) (s + 1))
  refine ⟨⟨?_, ?_, ?_⟩, ⟨?_, ?_, ?_⟩, ?_, ?_, ?_⟩ <;>
    (unfold fin
     after_reads_simp [stable (r := main_v25), stable (r := main_v26), stable (r := main_v27),
       stable (r := main_v38), stable (r := main_v39), stable (r := main_v40),
       stable (r := main_v62), stable (r := main_v63), stable (r := main_v64),
       stable (r := main_v65), stable (r := main_v66), stable (r := main_v67),
       stable (r := main_v263), stable (r := main_v266), stable (r := main_v269), stable (r := main_v222),
       stable (r := main_v232), stable (r := main_v245), stable (r := main_v312), stable (r := main_v331)]
     pointwise
     simp only [a0, a1, a2, b0, b1, b2, c0, c1, c2, d0, d1, d2, t0, t1, t2, k0, k1, k2, k3, H.at_v222,
       ← EReal.coe_mul, ← EReal.coe_add, ← EReal.coe_neg]
     congr 1
     simp only [tug, g0, g1, pull0, pull1, Matrix.cons_val]
     simp only [cr, Matrix.cons_val]
     field_simp
     ring)

end Chain

end Cert.Elastic
-- ==== Proof.RefRhs.lean ====
/- The right-hand side of the reference's linear solve: the springs' pulls gathered node by node, the damping and the
   external force. -/
module

public import proofs.«01_k».proof.Proof.RefGrad
public import proofs.«01_k».proof.Proof.Cols

@[expose] public section

set_option maxRecDepth 100000
set_option Elab.async false

namespace Cert.Elastic

open Idealize.ShloMosaic Idealize.ShloMosaic.TcCoe Idealize.ShloMosaic.StableHlo
open Idealize.SL.Sem
open Cert.ReferenceIdeal Cert.ReferenceIdeal.Gen Cert.ReferenceIdeal.Value

variable {V : Valuation τ sig (Elt Ideal)} {p : Fin 64 → ℕ → Fin 3 → ℝ} {N : Net}

/-- The sum over all springs, nodes of a spring and components, of what lands on one degree of freedom, is a sum over
the spring's node alone. -/
theorem sum_landing (f : ℕ → Fin 3 → Fin 3 → ℝ) (d : Fin 1536) :
    (∑ k : Fin 4590, if 3 * (k.val / 9 + k.val / 3 % 3) + k.val % 3 = d.val then
      f (k.val / 9) ⟨k.val / 3 % 3, by omega⟩ ⟨k.val % 3, by omega⟩ else 0) =
    ∑ j : Fin 3, if j.val ≤ d.val / 3 ∧ d.val / 3 - j.val < 510 then
      f (d.val / 3 - j.val) j ⟨d.val % 3, by omega⟩ else 0 := by
  rw [← Finset.sum_filter, ← Finset.sum_filter]
  refine Finset.sum_bij' (fun k _ => ⟨k.val / 3 % 3, by omega⟩)
    (fun j hj => ⟨9 * (d.val / 3 - j.val) + 3 * j.val + d.val % 3, by
      have := (Finset.mem_filter.mp hj).2; omega⟩) ?_ ?_ ?_ ?_ ?_
  · intro k hk
    have := (Finset.mem_filter.mp hk).2
    refine Finset.mem_filter.mpr ⟨Finset.mem_univ _, ?_⟩
    have hk' := k.isLt
    dsimp only
    omega
  · intro j hj
    have := (Finset.mem_filter.mp hj).2
    refine Finset.mem_filter.mpr ⟨Finset.mem_univ _, ?_⟩
    have hj' := j.isLt
    dsimp only
    omega
  · intro k hk
    have := (Finset.mem_filter.mp hk).2
    apply Fin.ext
    dsimp only
    omega
  · intro j hj
    have := (Finset.mem_filter.mp hj).2
    have hj' := j.isLt
    apply Fin.ext
    dsimp only
    omega
  · intro k hk
    have := (Finset.mem_filter.mp hk).2
    have e1 : k.val / 9 = d.val / 3 - k.val / 3 % 3 := by omega
    have e2 : (⟨k.val % 3, by omega⟩ : Fin 3) = ⟨d.val % 3, by omega⟩ := Fin.ext (by show k.val % 3 = d.val % 3; omega)
    dsimp only
    rw [e1, e2]

/-- A degree of freedom's word, three times the node and the component. -/
theorem dof_word (a c : ℕ) (h : a * 3 + c < 1536) (w : BitVec 32) :
    (Scalar.select (IntOp.cmpi CmpIPredicate.slt
      (IntOp.addi (IntOp.muli (BitVec.ofNat 32 a) 3#32) (BitVec.ofNat 32 c)) 0#32) w
      (IntOp.addi (IntOp.muli (BitVec.ofNat 32 a) 3#32) (BitVec.ofNat 32 c))).toInt = ((a * 3 + c : ℕ) : Int) := by
  have e : IntOp.addi (IntOp.muli (BitVec.ofNat 32 a) 3#32) (BitVec.ofNat 32 c) = BitVec.ofNat 32 (a * 3 + c) := by
    rw [BitVec.ofNat_add, BitVec.ofNat_mul]; rfl
  have t : (BitVec.ofNat 32 (a * 3 + c)).toNat = a * 3 + c := by
    rw [BitVec.toNat_ofNat]; exact Nat.mod_eq_of_lt (by omega)
  rw [e, Routing.wrap_of_lt _ _ (by rw [t]; omega), BitVec.toInt_eq_toNat_of_lt (by rw [t]; omega), t]

/-- The sum of what lands on one entry. -/
theorem landing (z : S64x1536.Idx → EReal) (w : S4590x1.Idx → BitVec 32) (u : S64x4590.Idx → EReal)
    (b : Fin 64) (d : Fin 1536) (g : Fin 64 → Fin 4590 → ℝ) (t : Fin 4590 → ℕ)
    (hz : z (ix2 b d) = 0) (hw : ∀ k : Fin 4590, (w (ix2 k 0)).toInt = ((t k : ℕ) : Int))
    (hu : ∀ (b : Fin 64) (k : Fin 4590), u (ix2 b k) = ((g b k : ℝ) : EReal)) :
    (Host.scatterAdd (F := Ideal) (φ := .f32) scatter_S64x1536_S4590x1_S64x4590_0_1_1_1 z w u : S64x1536.Idx → EReal) (ix2 b d) =
      ((∑ k : Fin 4590, if t k = d.val then g b k else 0 : ℝ) : EReal) := by
  have key : ∀ (b' : Fin 64) (k : Fin 4590),
      scatter_S64x1536_S4590x1_S64x4590_0_1_1_1.resultIdx? (ix2 b' k) w = some (ix2 b d) ↔
      b' = b ∧ t k = d.val := by
    intro b' k
    refine (putCols_lands scatter_S64x1536_S4590x1_S64x4590_0_1_1_1.wf w b' k b d).trans ?_
    rw [hw]
    exact and_congr_right fun _ => Nat.cast_inj
  refine (show _ = z (ix2 b d) + ∑ j ∈ Finset.univ.filter (fun j =>
      scatter_S64x1536_S4590x1_S64x4590_0_1_1_1.resultIdx? j w = some (ix2 b d)), u j from rfl).trans ?_
  rw [hz, zero_add, Finset.sum_filter, sum_idx2]
  simp only [key, hu]
  rw [Finset.sum_eq_single b (fun b' _ hb => Finset.sum_eq_zero fun k _ => if_neg fun h => hb h.1)
    (fun h => (h (Finset.mem_univ b)).elim)]
  simp only [true_and]
  rw [← sum_real]
  refine Finset.sum_congr rfl fun k _ => ?_
  split <;> rfl

namespace Chain

theorem at_v359 (H : Chain V p N) (b : Fin 64) (s : Fin 510) (j c : Fin 3) :
    (fin V main_v359 : S64x510x9.Idx → EReal) (ix3 b s ⟨3 * j.val + c.val, by omega⟩) =
      ((- tug N (p b) s j c : ℝ) : EReal) := by
  obtain ⟨⟨h00, h01, h02⟩, ⟨h10, h11, h12⟩, h20, h21, h22⟩ := H.at_grads b s
  unfold fin
  after_reads_simp
  have three : ∀ i : Fin 3, i = 0 ∨ i = 1 ∨ i = 2 := by decide
  obtain rfl | rfl | rfl := three j <;> obtain rfl | rfl | rfl := three c <;>
    (pointwise
     after_reads_simp [stable (r := main_v349), stable (r := main_v346), stable (r := main_v343),
       stable (r := main_v348), stable (r := main_v345), stable (r := main_v342), stable (r := main_v329),
       stable (r := main_v326), stable (r := main_v323)]
     pointwise
     simp only [h00, h01, h02, h10, h11, h12, h20, h21, h22])

theorem at_v361 (H : Chain V p N) (b : Fin 64) (k : Fin 4590) :
    (fin V main_v361 : S64x4590.Idx → EReal) (ix2 b k) =
      ((tug N (p b) (k.val / 9) ⟨k.val / 3 % 3, by omega⟩ ⟨k.val % 3, by omega⟩ : ℝ) : EReal) := by
  have h := H.at_v359 b ⟨k.val / 9, by omega⟩ ⟨k.val / 3 % 3, by omega⟩ ⟨k.val % 3, by omega⟩
  unfold fin
  after_reads_simp [stable (r := main_v359)]
  pointwise
  have e : (⟨k.val % 9, by omega⟩ : Fin 9) = ⟨3 * (k.val / 3 % 3) + k.val % 3, by omega⟩ :=
    Fin.ext (by show k.val % 9 = 3 * (k.val / 3 % 3) + k.val % 3; omega)
  rw [e]
  exact (congrArg (fun t : EReal => -t) h).trans (by rw [← EReal.coe_neg, neg_neg])

theorem at_v377 (hs : ∀ (s : Fin 510) (j : Fin 3),
      (V (Proc.devRef .tc main_arg8) : S510x3.Idx → BitVec 32) (ix2 s j) = BitVec.ofNat 32 (s.val + j.val))
    (k : Fin 4590) : ((fin V main_v377 : S4590x1.Idx → BitVec 32) (ix2 k 0)).toInt =
      ((3 * (k.val / 9 + k.val / 3 % 3) + k.val % 3 : ℕ) : Int) := by
  unfold fin
  after_reads_simp
  pointwise
  rw [hs]
  refine (dof_word _ _ ?_ _).trans ?_
  · have := k.isLt
    dsimp only
    omega
  · dsimp only
    rw [Nat.mul_comm]

/-- The elastic force on a degree of freedom. -/
theorem at_v378 (H : Chain V p N) (hs : ∀ (s : Fin 510) (j : Fin 3),
      (V (Proc.devRef .tc main_arg8) : S510x3.Idx → BitVec 32) (ix2 s j) = BitVec.ofNat 32 (s.val + j.val))
    (b : Fin 64) (d : Fin 1536) :
    (fin V main_v378 : S64x1536.Idx → EReal) (ix2 b d) =
      ((force N (p b) (d.val / 3) ⟨d.val % 3, by omega⟩ : ℝ) : EReal) := by
  unfold fin
  after_reads_simp [stable (r := main_v361), stable (r := main_v377)]
  refine (landing _ (fin V main_v377) (fin V main_v361) b d _ _ (by pointwise) (at_v377 hs) H.at_v361).trans ?_
  unfold force
  rw [sum_landing]

/-- The right-hand side of the solve. -/
theorem at_v385 (H : Chain V p N) (hs : ∀ (s : Fin 510) (j : Fin 3),
      (V (Proc.devRef .tc main_arg8) : S510x3.Idx → BitVec 32) (ix2 s j) = BitVec.ofNat 32 (s.val + j.val))
    (c : EReal) (hc : ∀ i j : Fin 1536, (V (Proc.devRef .tc main_arg10) : S1536x1536.Idx → EReal) (ix2 i j) =
      if i = j then c else 0)
    (b : Fin 64) (d : Fin 1536) (v f : EReal) (hv : (V (Proc.devRef .tc main_v1) : S64x1536.Idx → EReal) (ix2 b d) = v)
    (hf : (V (Proc.devRef .tc main_arg11) : S1536.Idx → EReal) (ix1 d) = f) :
    (fin V main_v385 : S64x1536.Idx → EReal) (ix2 b d) =
      - (v * c) + ((force N (p b) (d.val / 3) ⟨d.val % 3, by omega⟩ : ℝ) : EReal) + f := by
  unfold fin
  after_reads_simp [stable (r := main_v378)]
  pointwise
  simp only [hc, mul_ite, mul_zero, Finset.sum_ite_eq, Finset.mem_univ, if_true, H.at_v378 hs, hv, hf]

end Chain

end Cert.Elastic
-- ==== Proof.Solve.lean ====
/- The reference's elimination loop on a mass matrix that is one number on its diagonal: after `k` trips the first `k`
   columns of the right-hand side are divided by that number and the rest are untouched. -/
module

public import proofs.«01_k».proof.Proof.Read
public import proofs.«01_k».proof.Proof.Reals
public import Idealize.ShloMosaic.Lib.ReduceAll

@[expose] public section

set_option maxRecDepth 100000
set_option Elab.async false

namespace Cert.Elastic

open Idealize.ShloMosaic Idealize.ShloMosaic.TcCoe Idealize.ShloMosaic.StableHlo
open Idealize.SL.Sem
open Cert.ReferenceIdeal Cert.ReferenceIdeal.Gen Cert.ReferenceIdeal.Value

/-- A word made of one small number is a word made of another only when the numbers agree. -/
theorem same_word (i k : ℕ) (hi : i < 4096) (hk : k < 4096) :
    IntOp.cmpi .eq (BitVec.ofNat 32 i) (BitVec.ofNat 32 k) = if i = k then 1#1 else 0#1 := by
  by_cases h : i = k
  · rw [if_pos h, h]
    exact IntOp.cmpi_eq.mpr rfl
  · rw [if_neg h]
    by_contra hc
    have h1 : IntOp.cmpi .eq (BitVec.ofNat 32 i) (BitVec.ofNat 32 k) = 1#1 := by
      revert hc
      generalize IntOp.cmpi .eq (BitVec.ofNat 32 i) (BitVec.ofNat 32 k) = w
      revert w
      decide
    have h2 := congrArg BitVec.toNat (IntOp.cmpi_eq.mp h1)
    rw [BitVec.toNat_ofNat, BitVec.toNat_ofNat] at h2
    omega

/-- A sum that a mask leaves one term of. -/
theorem sum_masked (k : Fin 1536) (w : Fin 1536 → BitVec 1) (hw : ∀ i, w i = if i = k then 1#1 else 0#1)
    (x : Fin 1536 → EReal) (z : EReal) (hz : z = 0) :
    ∑ i, Scalar.select (w i) (x i) z = x k := by
  rw [Finset.sum_eq_single k]
  · rw [hw, if_pos rfl]; rfl
  · intro i _ hi
    rw [hw, if_neg hi, ← hz]; rfl
  · intro h; exact absurd (Finset.mem_univ k) h

/-- A choice by a mask. -/
theorem pick_masked (k i : Fin 1536) (w : BitVec 1) (hw : w = if i = k then 1#1 else 0#1) (x y : EReal) :
    Scalar.select w x y = if i = k then x else y := by
  rw [hw]
  by_cases h : i = k
  · rw [if_pos h, if_pos h]; rfl
  · rw [if_neg h, if_neg h]; rfl

/-- Taking nothing away. -/
theorem less_nothing (x y z : EReal) (h : y * z = 0) : x - y * z = x := by
  rw [h, sub_zero]

/-- Nothing divided by a number that is not nothing. -/
theorem over_nothing (m : EReal) (hm : m ≠ 0) : Ideal.div 0 m = 0 := by
  unfold Ideal.div
  rw [if_neg hm, zero_mul]

/-- Where the loop stands after `k` trips. -/
structure Solved (m : EReal) (B : Fin 64 → Fin 1536 → EReal) (k : ℕ) (V : Valuation τ sig (Elt Ideal)) : Prop where
  count : (V (Proc.devRef .tc main_v387_1) : S_.Idx → BitVec 32) ix0 = BitVec.ofNat 32 k
  off : ∀ i j, i ≠ j → (V (Proc.devRef .tc main_v387_2) : S1536x1536.Idx → EReal) (ix2 i j) = (0 : EReal)
  diag : ∀ i : Fin 1536, k ≤ i.val → (V (Proc.devRef .tc main_v387_2) : S1536x1536.Idx → EReal) (ix2 i i) = m
  rhs : ∀ b d, (V (Proc.devRef .tc main_v387_3) : S64x1536.Idx → EReal) (ix2 b d) =
    if d.val < k then Ideal.div (B b d) m else B b d

namespace Solved

variable {m : EReal} {B : Fin 64 → Fin 1536 → EReal} {k : ℕ} {V : Valuation τ sig (Elt Ideal)}

/-- The mask of the trip's row. -/
theorem at_mask (H : Solved m B k V) (hk : k < 1536) (i : Fin 1536) :
    (res_main_while0b_v411 (F := Ideal) V : S1536.Idx → BitVec 1) (ix1 i) = if i = ⟨k, hk⟩ then 1#1 else 0#1 := by
  unfold res_main_while0b_v411
  pointwise
  refine (congrArg (IntOp.cmpi .eq (BitVec.ofNat 32 i.val)) H.count).trans ?_
  rw [same_word _ _ (by omega) (by omega)]
  exact if_congr (by rw [Fin.ext_iff]) rfl rfl

/-- The trip's row of the matrix. -/
theorem at_row (H : Solved m B k V) (hk : k < 1536) (j : Fin 1536) :
    (res_main_while0b_v414 (F := Ideal) V : S1536.Idx → EReal) (ix1 j) =
      (V (Proc.devRef .tc main_v387_2) : S1536x1536.Idx → EReal) (ix2 ⟨k, hk⟩ j) := by
  unfold res_main_while0b_v414
  pointwise
  exact sum_masked ⟨k, hk⟩ _ (H.at_mask hk)
    (fun i => (V (Proc.devRef .tc main_v387_2) : S1536x1536.Idx → EReal) (ix2 i j)) _ (zero_lit.trans EReal.coe_zero)

/-- The trip's column of the matrix. -/
theorem at_column (H : Solved m B k V) (hk : k < 1536) (i : Fin 1536) :
    (res_main_while0b_v417 (F := Ideal) V : S1536.Idx → EReal) (ix1 i) =
      (V (Proc.devRef .tc main_v387_2) : S1536x1536.Idx → EReal) (ix2 i ⟨k, hk⟩) := by
  unfold res_main_while0b_v417
  pointwise
  exact sum_masked ⟨k, hk⟩ _ (H.at_mask hk)
    (fun j => (V (Proc.devRef .tc main_v387_2) : S1536x1536.Idx → EReal) (ix2 i j)) _ (zero_lit.trans EReal.coe_zero)

/-- The pivot. -/
theorem at_pivot (H : Solved m B k V) (hk : k < 1536)  :
    (res_main_while0b_v422 (F := Ideal) V : S_.Idx → EReal) ix0 = m := by
  unfold res_main_while0b_v422
  pointwise
  refine (sum_masked ⟨k, hk⟩ _ (H.at_mask hk)
    (fun j => (res_main_while0b_v414 (F := Ideal) V : S1536.Idx → EReal) (ix1 j)) _ (zero_lit.trans EReal.coe_zero)).trans ?_
  exact (H.at_row hk ⟨k, hk⟩).trans (H.diag ⟨k, hk⟩ le_rfl)

/-- The trip's row over the pivot. -/
theorem at_scaled (H : Solved m B k V) (hk : k < 1536) (j : Fin 1536) :
    (res_main_while0b_v424 (F := Ideal) V : S1536.Idx → EReal) (ix1 j) =
      Ideal.div ((V (Proc.devRef .tc main_v387_2) : S1536x1536.Idx → EReal) (ix2 ⟨k, hk⟩ j)) m := by
  unfold res_main_while0b_v424
  pointwise
  exact congrArg₂ Ideal.div (H.at_row hk j) (H.at_pivot hk)

/-- The right-hand side's column over the pivot. -/
theorem at_answer (H : Solved m B k V) (hk : k < 1536) (b : Fin 64) :
    (res_main_while0b_v426 (F := Ideal) V : S64.Idx → EReal) (ix1 b) = Ideal.div (B b ⟨k, hk⟩) m := by
  unfold res_main_while0b_v426
  pointwise
  refine congrArg₂ Ideal.div ?_ (H.at_pivot hk)
  refine (sum_masked ⟨k, hk⟩ _ (H.at_mask hk)
    (fun j => (V (Proc.devRef .tc main_v387_3) : S64x1536.Idx → EReal) (ix2 b j)) _ (zero_lit.trans EReal.coe_zero)).trans ?_
  exact (H.rhs b ⟨k, hk⟩).trans (if_neg (lt_irrefl k))

theorem next_count (H : Solved m B k V) :
    (step_main_v387_1 (F := Ideal) V : S_.Idx → BitVec 32) ix0 = BitVec.ofNat 32 (k + 1) := by
  unfold step_main_v387_1
  refine (congrArg (fun w : BitVec 32 => w + 1#32) H.count).trans ?_
  exact (BitVec.ofNat_add k 1).symm

theorem next_matrix (H : Solved m B k V) (hk : k < 1536) (i j : Fin 1536) :
    (step_main_v387_2 (F := Ideal) V : S1536x1536.Idx → EReal) (ix2 i j) =
      if i = ⟨k, hk⟩ then Ideal.div ((V (Proc.devRef .tc main_v387_2) : S1536x1536.Idx → EReal) (ix2 ⟨k, hk⟩ j)) m
      else (V (Proc.devRef .tc main_v387_2) : S1536x1536.Idx → EReal) (ix2 i j) := by
  unfold step_main_v387_2
  rw [id_eq]
  pointwise
  refine (pick_masked ⟨k, hk⟩ i _ (H.at_mask hk i) _ _).trans ?_
  by_cases h : i = ⟨k, hk⟩
  · rw [if_pos h, if_pos h]
    exact H.at_scaled hk j
  · rw [if_neg h, if_neg h]
    have hc : (res_main_while0b_v417 (F := Ideal) V : S1536.Idx → EReal) (ix1 i) = (0 : EReal) :=
      (H.at_column hk i).trans (H.off i ⟨k, hk⟩ h)
    exact less_nothing _ _ _ (by rw [hc, zero_mul])

theorem next_rhs (H : Solved m B k V) (hk : k < 1536) (b : Fin 64) (d : Fin 1536) :
    (step_main_v387_3 (F := Ideal) V : S64x1536.Idx → EReal) (ix2 b d) =
      if d = ⟨k, hk⟩ then Ideal.div (B b ⟨k, hk⟩) m
      else (V (Proc.devRef .tc main_v387_3) : S64x1536.Idx → EReal) (ix2 b d) := by
  unfold step_main_v387_3
  rw [id_eq]
  pointwise
  refine (pick_masked ⟨k, hk⟩ d _ (H.at_mask hk d) _ _).trans ?_
  by_cases h : d = ⟨k, hk⟩
  · rw [if_pos h, if_pos h]
    exact H.at_answer hk b
  · rw [if_neg h, if_neg h]
    have hc : (res_main_while0b_v417 (F := Ideal) V : S1536.Idx → EReal) (ix1 d) = (0 : EReal) :=
      (H.at_column hk d).trans (H.off d ⟨k, hk⟩ h)
    exact less_nothing _ _ _ (by rw [hc, mul_zero])

/-- One trip. -/
theorem next (hm : m ≠ 0) (H : Solved m B k V) (hk : k < 1536) : Solved m B (k + 1) (STEP V) where
  count := (congrFun (STEP_main_v387_1 V) ix0).trans H.next_count
  off := fun i j hij => by
    refine (congrFun (STEP_main_v387_2 V) (ix2 i j)).trans ((H.next_matrix hk i j).trans ?_)
    by_cases h : i = ⟨k, hk⟩
    · rw [if_pos h, H.off ⟨k, hk⟩ j (h ▸ hij)]
      exact over_nothing m hm
    · rw [if_neg h]
      exact H.off i j hij
  diag := fun i hi => by
    refine (congrFun (STEP_main_v387_2 V) (ix2 i i)).trans ((H.next_matrix hk i i).trans ?_)
    rw [if_neg (by rw [Fin.ext_iff]; simp only []; omega)]
    exact H.diag i (by omega)
  rhs := fun b d => by
    refine (congrFun (STEP_main_v387_3 V) (ix2 b d)).trans ((H.next_rhs hk b d).trans ?_)
    by_cases h : d = ⟨k, hk⟩
    · rw [if_pos h, h, if_pos (by simp only []; omega)]
    · have hd : d.val ≠ k := fun e => h (Fin.ext e)
      rw [if_neg h, H.rhs b d]
      exact if_congr (by omega) rfl rfl

/-- All the trips up to the `n`th. -/
theorem upTo (hm : m ≠ 0) (H : Solved m B 0 V) : ∀ n, n ≤ 1536 → Solved m B n (STEP^[n] V)
  | 0, _ => H
  | n + 1, hn => by
    rw [Function.iterate_succ_apply']
    exact next hm (upTo hm H n (by omega)) (by omega)

/-- After the last trip every column is divided. -/
theorem at_end (hm : m ≠ 0) (H : Solved m B 0 V) (b : Fin 64) (d : Fin 1536) :
    (STEP^[1536] V (Proc.devRef .tc main_v387_3) : S64x1536.Idx → EReal) (ix2 b d) = Ideal.div (B b d) m :=
  ((upTo hm H 1536 le_rfl).rhs b d).trans (if_pos d.isLt)

end Solved
end Cert.Elastic
-- ==== Proof.RefEnd.lean ====
/- The reference's result, read at an index: the velocities in the first half of a row, the solved right-hand side in
   the second. -/
module

public import proofs.«01_k».proof.Proof.RefGather
public import proofs.«01_k».proof.Proof.RefRhs
public import proofs.«01_k».proof.Proof.Solve
public import Idealize.ShloMosaic.Lib.Routing.OpsSet

@[expose] public section

set_option maxRecDepth 100000
set_option Elab.async false

namespace Cert.Elastic

open Idealize.ShloMosaic Idealize.ShloMosaic.TcCoe Idealize.ShloMosaic.StableHlo Idealize.ShloMosaic.Routing
open Idealize.SL.Sem
open Cert.ReferenceIdeal Cert.ReferenceIdeal.Gen Cert.ReferenceIdeal.Value

/-- Columns put down in a row of places holding the update at each place. -/
theorem put_hit {α : Type} {R N K w : ℕ} (wf : ScatterDims.WF (shape2 R N) (shape2 K 1) (shape2 R K) [0] [1] [1] 1)
    (x : (shape2 R N).Idx → α) (idx : IVec (shape2 K 1) w) (upd : (shape2 R K).Idx → α) (base : ℕ)
    (hi : ∀ k : Fin K, (idx (ix2 k 0)).toInt = ((base + k.val : ℕ) : Int)) (b : Fin R) (k : Fin K) (d : Fin N)
    (hd : d.val = base + k.val) :
    Host.scatter (putCols R N K wf) (fun _ b => b) x idx upd (ix2 b d) = upd (ix2 b k) := by
  refine scatter_set_hit _ x idx upd _ _ (fun j hj => ?_) (ix2 b k) ((putCols_lands wf idx b k b d).2 ⟨rfl, ?_⟩)
  · obtain ⟨b', k', rfl⟩ : ∃ (b' : Fin R) (k' : Fin K), j = ix2 b' k' := ⟨j 0, j 1, eq_ix2 j⟩
    have h := (putCols_lands wf idx _ _ b d).1 hj
    have e := h.2
    rw [hi] at e
    refine congrArg upd (congrArg₂ ix2 h.1 (Fin.ext ?_))
    have := (Nat.cast_inj (R := Int)).1 e
    omega
  · rw [hi, hd]

/-- A place no column is put on keeps what it held. -/
theorem put_miss {α : Type} {R N K w : ℕ} (wf : ScatterDims.WF (shape2 R N) (shape2 K 1) (shape2 R K) [0] [1] [1] 1)
    (x : (shape2 R N).Idx → α) (idx : IVec (shape2 K 1) w) (upd : (shape2 R K).Idx → α) (base : ℕ)
    (hi : ∀ k : Fin K, (idx (ix2 k 0)).toInt = ((base + k.val : ℕ) : Int)) (b : Fin R) (d : Fin N)
    (hd : d.val < base) :
    Host.scatter (putCols R N K wf) (fun _ b => b) x idx upd (ix2 b d) = x (ix2 b d) := by
  refine scatter_set_miss _ x idx upd _ (fun j hj => ?_)
  obtain ⟨b', k', rfl⟩ : ∃ (b' : Fin R) (k' : Fin K), j = ix2 b' k' := ⟨j 0, j 1, eq_ix2 j⟩
  have h := (putCols_lands wf idx _ _ b d).1 hj
  have e := h.2
  rw [hi] at e
  have := (Nat.cast_inj (R := Int)).1 e
  omega

variable {V : Valuation τ sig (Elt Ideal)}

/-- Every degree of freedom is free, in order. -/
def AllFree (V : Valuation τ sig (Elt Ideal)) : Prop :=
  ∀ k : Fin 1536, (V (Proc.devRef .tc main_arg12) : S1536.Idx → BitVec 32) (ix1 k) = BitVec.ofNat 32 k.val

theorem word_of (n : ℕ) (hn : n < 4096) (w : BitVec 32) (h : w = BitVec.ofNat 32 n) : w.toInt = (n : Int) := by
  rw [h, word_small n hn]

/-- The places the velocities go. -/
theorem low_place (w : BitVec 32) (n : ℕ) (hn : n < 1536) (h : w = BitVec.ofNat 32 n) (z t : BitVec 32) (hz : z = 0#32) :
    (Scalar.select (IntOp.cmpi .slt w z) t w).toInt = (n : Int) := by
  rw [hz, wrap_of_lt w t (by rw [h, BitVec.toNat_ofNat]; omega), word_of n (by omega) w h]

/-- The places the accelerations go. -/
theorem high_place (u w : BitVec 32) (n : ℕ) (hn : n < 1536) (hu : u = 1536#32) (h : w = BitVec.ofNat 32 n)
    (z t : BitVec 32) (hz : z = 0#32) :
    (Scalar.select (IntOp.cmpi .slt (IntOp.addi u w) z) t (IntOp.addi u w)).toInt = ((1536 + n : ℕ) : Int) := by
  have e : IntOp.addi u w = BitVec.ofNat 32 (1536 + n) := by
    rw [hu, h]
    exact (BitVec.ofNat_add 1536 n).symm
  rw [hz, wrap_of_lt _ t (by rw [e, BitVec.toNat_ofNat]; omega), word_of _ (by omega) _ e]

theorem out_high (hF : AllFree V) (b : Fin 64) (d : Fin 1536) :
    (out_main_v406 (F := Ideal) V : S64x3072.Idx → EReal) (ix2 b ⟨1536 + d.val, by omega⟩) =
      (V (Proc.devRef .tc main_v387_3) : S64x1536.Idx → EReal) (ix2 b d) := by
  unfold out_main_v406
  refine put_hit scatter_S64x3072_S1536x1_S64x1536_0_1_1_1.wf _ _ _ 1536 (fun k => ?_) b d _ rfl
  pointwise
  exact high_place _ _ k.val k.isLt rfl (hF k) _ _ rfl

theorem out_low (hF : AllFree V) (b : Fin 64) (d : Fin 1536) :
    (out_main_v406 (F := Ideal) V : S64x3072.Idx → EReal) (ix2 b ⟨d.val, by omega⟩) =
      (V (Proc.devRef .tc main_arg1) : S64x3072.Idx → EReal) (ix2 b ⟨1536 + d.val, by omega⟩) := by
  unfold out_main_v406
  refine (put_miss scatter_S64x3072_S1536x1_S64x1536_0_1_1_1.wf _ _ _ 1536 (fun k => ?_) b _ d.isLt).trans ?_
  · pointwise
    exact high_place _ _ k.val k.isLt rfl (hF k) _ _ rfl
  refine (put_hit scatter_S64x3072_S1536x1_S64x1536_0_1_1_1.wf _ _ _ 0 (fun k => ?_) b d _ (Nat.zero_add _).symm).trans ?_
  · pointwise
    exact low_place _ k.val k.isLt (hF k) _ _ rfl
  refine (takeCols_at (by norm_num) gather_S64x1536_S1536x1_S64x1536_0_1_n_n_1_1_641.wf _ _ b d).trans ?_
  pointwise
  refine congrArg _ (congrArg₂ ix2 rfl (Fin.ext ?_))
  have e := word_of d.val (by omega) _ (hF d)
  simp only [e]
  omega

/-- What the lines between the force region and the loop leave in the loop's buffers. -/
theorem enter (U : Valuation τ sig (Elt Ideal)) :
    (after hostOps0_4 (after hostOps0_3 U) (Proc.devRef .tc main_v387_1) : S_.Idx → BitVec 32) = constantI S_ 32 0#32 ∧
    after hostOps0_4 (after hostOps0_3 U) (Proc.devRef .tc main_v387_2) = U (Proc.devRef .tc main_arg9) ∧
    (after hostOps0_4 (after hostOps0_3 U) (Proc.devRef .tc main_v387_3) : S64x1536.Idx → EReal) =
      Host.gather gather_S64x1536_S1536x1_S64x1536_0_1_n_n_1_1_641 (U (Proc.devRef .tc main_v385) : S64x1536.Idx → EReal)
        (broadcastInDim S1536x1 ![0] bcast_S1536_S1536x1_0 (U (Proc.devRef .tc main_arg12) : S1536.Idx → BitVec 32)) := by
  refine ⟨?_, ?_, ?_⟩
  · after_reads_simp
    rfl
  · after_reads_simp
    rfl
  · after_reads_simp
    rfl

theorem enter_rhs (U : Valuation τ sig (Elt Ideal)) (hF : AllFree U) (b : Fin 64) (d : Fin 1536) :
    (after hostOps0_4 (after hostOps0_3 U) (Proc.devRef .tc main_v387_3) : S64x1536.Idx → EReal) (ix2 b d) =
      (U (Proc.devRef .tc main_v385) : S64x1536.Idx → EReal) (ix2 b d) := by
  rw [(enter U).2.2]
  refine (takeCols_at (by norm_num) gather_S64x1536_S1536x1_S64x1536_0_1_n_n_1_1_641.wf _ _ b d).trans ?_
  pointwise
  refine congrArg _ (congrArg₂ ix2 rfl (Fin.ext ?_))
  have e := word_of d.val (by omega) _ (hF d)
  simp only [e]
  omega

/-- An argument the first three stretches leave alone. -/
theorem forced_kept (W : Valuation τ sig (Elt Ideal)) (r : Ref sig .tc) (h0 : r ∉ hostOps0_W) (h1 : r ∉ hostOps0_1_W)
    (h2 : r ∉ hostOps0_2_W) :
    after hostOps0_2 (opened W) (Proc.devRef .tc r) = W (Proc.devRef .tc r) :=
  (after_unwritten hostOps0_2_W rfl h2 _).trans (opened_kept r h0 h1)

variable {W : Valuation τ sig (Elt Ideal)}

/-- The loop starts from the right-hand side and the one-number mass matrix. -/
theorem starts (hF : AllFree W) (μ : EReal)
    (hM : ∀ i j : Fin 1536, (W (Proc.devRef .tc main_arg9) : S1536x1536.Idx → EReal) (ix2 i j) = if i = j then μ else 0) :
    Solved μ (fun b d => (fin (opened W) main_v385 : S64x1536.Idx → EReal) (ix2 b d)) 0 (afterL preI W) where
  count := congrFun (enter (after hostOps0_2 (opened W))).1 ix0
  off := fun i j hij => by
    refine (congrFun ((enter (after hostOps0_2 (opened W))).2.1.trans
      (forced_kept W main_arg9 (by decide) (by decide) (by decide))) (ix2 i j)).trans ?_
    exact (hM i j).trans (if_neg hij)
  diag := fun i _ => by
    refine (congrFun ((enter (after hostOps0_2 (opened W))).2.1.trans
      (forced_kept W main_arg9 (by decide) (by decide) (by decide))) (ix2 i i)).trans ?_
    exact (hM i i).trans (if_pos rfl)
  rhs := fun b d => by
    rw [if_neg (Nat.not_lt_zero _)]
    refine enter_rhs (after hostOps0_2 (opened W)) (fun k => ?_) b d
    exact (congrFun (forced_kept W main_arg12 (by decide) (by decide) (by decide)) (ix1 k)).trans (hF k)

end Cert.Elastic
-- ==== Proof.Chained.lean ====
/- What the precondition says: the springs join neighbours in order, every degree of freedom is free, the mass and
   damping matrices are one number on their diagonals, the mass is not nothing, and the positions and weights are real. -/
module

public import proofs.«01_k».proof.Defs
public import proofs.«01_k».proof.Proof.Gen.Pre_chain_inputs
public import proofs.«01_k».proof.Proof.Data
public import proofs.«01_k».proof.Proof.Reals
public import proofs.«01_k».proof.Proof.Solve
public import Idealize.ShloMosaic.Lib.Pointwise
public import Idealize.ShloMosaic.Lib.ReduceAll

@[expose] public section

set_option maxRecDepth 100000
set_option Elab.async false

namespace Cert.Elastic

open Idealize.ShloMosaic
open Cert.Pre_chain_inputs Cert.Pre_chain_inputs.Facts

instance : Subsingleton S_.Idx := ⟨fun _ _ => funext fun a => a.elim0⟩

/-- A conjunction of two words that holds. -/
theorem both (x y : S_.Idx → BitVec 1) (h : andi x y ix0 = 1#1) : x ix0 = 1#1 ∧ y ix0 = 1#1 :=
  IntOp.andi_eq_one.mp h

/-- A comparison of extended reals that holds. -/
theorem holds (p : Prop) [Decidable p] (h : BitVec.ofBool (decide p) = 1#1) : p := by
  by_contra hp
  rw [decide_eq_false hp] at h
  exact absurd h (by decide)

/-- Below infinity in size: a real number. -/
theorem real_of_small (x : EReal) (h : Ideal.cmp .olt (max x (-x)) (Ideal.ofBits .f32 0x7F800000#32) = 1#1) :
    x = (x.toReal : EReal) := by
  rw [inf_lit] at h
  have h := holds _ h
  refine real_of_finite x (fun e => ?_) (fun e => ?_)
  · rw [e] at h; simp at h
  · rw [e] at h; simp at h

/-- A whole array below infinity in size. -/
theorem all_real {s : Shape} {axes : List (Fin s.rank)} (x : FVec Ideal s .f32)
    (w : S_.BroadcastsInDim s (![] : Fin 0 → Fin s.rank)) (hr : s.ReducesTo axes S_) (hu : 0 < S_.numel)
    (h : Host.reduce IntOp.andi (cmpf .olt (Host.absf x) (broadcastInDim s ![] w (constant (F := Ideal) S_ .f32 0x7F800000#32)))
      (constantI S_ 1 1#1) hr hu ix0 = 1#1) (i : s.Idx) : (x i : EReal) = ((x i : EReal).toReal : EReal) :=
  real_of_small _ (Host.reduce_andi_all _ _ hr hu ix0 h i)

/-- What the last part of the precondition says. -/
theorem part_three (A6 : FVec Ideal S64x1 .f32) (x y : IVec S_ 1) (h : fn_part3 (F := Ideal) A6 x y ix0 = 1#1) :
    (x ix0 = 1#1 ∧ y ix0 = 1#1) ∧ ∀ i, (A6 i : EReal) = ((A6 i : EReal).toReal : EReal) := by
  unfold fn_part3 at h
  have h1 := both _ _ h
  exact ⟨both _ _ h1.1, all_real A6 _ _ _ h1.2⟩

theorem part_two (A3 : FVec Ideal S64 .f32) (A4 : FVec Ideal S64x64 .f32) (A5 : FVec Ideal S64 .f32)
    (A6 : FVec Ideal S64x1 .f32) (x : IVec S_ 1) (A2 : FVec Ideal S2x64 .f32)
    (w : S_.BroadcastsInDim S2x64 (![] : Fin 0 → Fin S2x64.rank))
    (h : fn_part2 (F := Ideal) A3 A4 A5 A6 x (Host.absf A2)
      (broadcastInDim S2x64 ![] w (constant (F := Ideal) S_ .f32 0x7F800000#32)) ix0 = 1#1) :
    x ix0 = 1#1 ∧ (∀ i, (A2 i : EReal) = ((A2 i : EReal).toReal : EReal)) ∧
      (∀ i, (A3 i : EReal) = ((A3 i : EReal).toReal : EReal)) ∧ (∀ i, (A4 i : EReal) = ((A4 i : EReal).toReal : EReal)) ∧
      (∀ i, (A5 i : EReal) = ((A5 i : EReal).toReal : EReal)) ∧ ∀ i, (A6 i : EReal) = ((A6 i : EReal).toReal : EReal) := by
  unfold fn_part2 at h
  have h3 := part_three _ _ _ h
  have h50 := both _ _ h3.1.1
  have h45 := both _ _ h50.1
  have h40 := both _ _ h45.1
  exact ⟨h40.1, all_real A2 _ _ _ h40.2, all_real A3 _ _ _ h45.2, all_real A4 _ _ _ h50.2, all_real A5 _ _ _ h3.1.2, h3.2⟩

/-- A square matrix equal to one number on its diagonal. -/
theorem one_number (A : FVec Ideal S1536x1536 .f32) (w : IVec S1536x1536 1)
    (hw : ∀ i j : Fin 1536, w (ix2 i j) = if i = j then 1#1 else 0#1)
    (h : Host.reduce IntOp.andi (cmpf .oeq A (fn_where (F := Ideal) w
        (shapeCast S_ (extractStridedSlice S1x1 ![0, 0] A slices_S1536x1536_S1x1_0_0) shapeCasts_S1x1_S_)
        (constant (F := Ideal) S_ .f32 0x00000000#32))) (constantI S_ 1 1#1) reducesTo_S1536x1536_S_d0_1 h_S_ ix0 = 1#1)
    (i j : Fin 1536) : (A : S1536x1536.Idx → EReal) (ix2 i j) = if i = j then (A : S1536x1536.Idx → EReal) (ix2 0 0) else (0 : EReal) := by
  have h1 := Host.reduce_andi_all _ _ _ _ ix0 h (ix2 i j)
  unfold fn_where at h1
  pointwise at h1
  refine (holds _ h1).trans ((pick_masked j i _ (hw i j) _ _).trans ?_)
  exact if_congr Iff.rfl rfl (zero_lit.trans EReal.coe_zero)

/-- The first entry of a matrix, cut out. -/
theorem first_entry (A : FVec Ideal S1536x1536 .f32) :
    (shapeCast S_ (extractStridedSlice S1x1 ![0, 0] A slices_S1536x1536_S1x1_0_0) shapeCasts_S1x1_S_ : S_.Idx → EReal) ix0 =
      (A : S1536x1536.Idx → EReal) (ix2 0 0) := by
  pointwise

theorem part_one (A1 : FVec Ideal S64x3072 .f32) (A2 : FVec Ideal S2x64 .f32) (A3 : FVec Ideal S64 .f32) (A4 : FVec Ideal S64x64 .f32)
    (A5 : FVec Ideal S64 .f32) (A6 : FVec Ideal S64x1 .f32) (A9 A10 : FVec Ideal S1536x1536 .f32) (w : IVec S1536x1536 1)
    (hw : ∀ i j : Fin 1536, w (ix2 i j) = if i = j then 1#1 else 0#1) (x : IVec S_ 1)
    (h : fn_part1 (F := Ideal) A1 A2 A3 A4 A5 A6 A9 A10 w x ix0 = 1#1) :
    x ix0 = 1#1 ∧ (A9 : S1536x1536.Idx → EReal) (ix2 0 0) ≠ (0 : EReal) ∧
      (∀ i j : Fin 1536, (A10 : S1536x1536.Idx → EReal) (ix2 i j) =
        if i = j then (A10 : S1536x1536.Idx → EReal) (ix2 0 0) else (0 : EReal)) ∧
      AllReal A1 A2 A3 A4 A5 A6 := by
  unfold fn_part1 at h
  obtain ⟨h35, r2, r3, r4, r5, r6⟩ := part_two _ _ _ _ _ _ _ h
  clear h
  have h29 := both _ _ h35
  have h23 := both _ _ h29.1
  have h19 := both _ _ h23.1
  refine ⟨h19.1, fun e => ?_, one_number A10 w hw h23.2, ⟨fun b d hd => ?_, fun i j => r2 (ix2 i j), fun j => r3 (ix1 j),
    fun i j => r4 (ix2 i j), fun j => r5 (ix1 j), fun j => r6 (ix2 j 0)⟩⟩
  · have hne := holds _ h19.2
    exact hne ((first_entry A9).trans (e.trans (zero_lit.trans EReal.coe_zero).symm))
  · have e := Host.reduce_andi_all _ _ _ _ ix0 h29.2 (ix2 b ⟨d.val, hd⟩)
    pointwise at e
    exact real_of_small _ e

/-- What the precondition says of the arguments. -/
structure Chained (A1 : S64x3072.Idx → EReal) (A2 : S2x64.Idx → EReal) (A3 : S64.Idx → EReal) (A4 : S64x64.Idx → EReal)
    (A5 : S64.Idx → EReal) (A6 : S64x1.Idx → EReal) (A8 : S510x3.Idx → BitVec 32) (A9 A10 : S1536x1536.Idx → EReal)
    (A12 : S1536.Idx → BitVec 32) : Prop where
  springs : ∀ (s : Fin 510) (j : Fin 3), A8 (ix2 s j) = BitVec.ofNat 32 (s.val + j.val)
  free : ∀ k : Fin 1536, A12 (ix1 k) = BitVec.ofNat 32 k.val
  mass : ∀ i j : Fin 1536, A9 (ix2 i j) = if i = j then A9 (ix2 0 0) else (0 : EReal)
  heavy : A9 (ix2 0 0) ≠ (0 : EReal)
  damping : ∀ i j : Fin 1536, A10 (ix2 i j) = if i = j then A10 (ix2 0 0) else (0 : EReal)
  real : AllReal A1 A2 A3 A4 A5 A6

theorem chained (A0 : FVec Ideal S_ .f32) (A1 : FVec Ideal S64x3072 .f32) (A2 : FVec Ideal S2x64 .f32) (A3 : FVec Ideal S64 .f32)
    (A4 : FVec Ideal S64x64 .f32) (A5 : FVec Ideal S64 .f32) (A6 : FVec Ideal S64x1 .f32) (A7 : FVec Ideal S1 .f32)
    (A8 : IVec S510x3 32) (A9 A10 : FVec Ideal S1536x1536 .f32) (A11 : FVec Ideal S1536 .f32) (A12 : IVec S1536 32)
    (h : fn (F := Ideal) A0 A1 A2 A3 A4 A5 A6 A7 A8 A9 A10 A11 A12 ix0 = 1#1) :
    Chained A1 A2 A3 A4 A5 A6 A8 A9 A10 A12 := by
  unfold fn at h
  have hw : ∀ i j : Fin 1536, (cmpi .eq (broadcastInDim S1536x1536 ![0, 1] bcast_S1536x1_S1536x1536_0_1
      (broadcastInDim S1536x1 ![0] bcast_S1536_S1536x1_0 (iotaInDim S1536 32 0)))
      (broadcastInDim S1536x1536 ![0, 1] bcast_S1x1536_S1536x1536_0_1
        (broadcastInDim S1x1536 ![1] bcast_S1536_S1x1536_1 (iotaInDim S1536 32 0))) : IVec S1536x1536 1) (ix2 i j) =
      if i = j then 1#1 else 0#1 := fun i j => by
    pointwise
    rw [same_word _ _ (by omega) (by omega)]
    exact if_congr (by rw [Fin.ext_iff]) rfl rfl
  have h1 := part_one _ _ _ _ _ _ _ _ _ hw _ h
  have h19 := both _ _ h1.1
  have h13 := both _ _ h19.1
  refine ⟨fun s j => ?_, fun k => ?_, one_number A9 _ hw h19.2, h1.2.1, h1.2.2.1, h1.2.2.2⟩
  · have e := Host.reduce_andi_all _ _ _ _ ix0 h13.1 (ix2 s j)
    pointwise at e
    exact (IntOp.cmpi_eq.mp e).trans (BitVec.ofNat_add s.val j.val).symm
  · have e := Host.reduce_andi_all _ _ _ _ ix0 h13.2 (ix1 k)
    pointwise at e
    exact IntOp.cmpi_eq.mp e

end Cert.Elastic
-- ==== Proof.RefValue.lean ====
/- The reference's result as a function of its arguments, under what the precondition says of them. -/
module

public import proofs.«01_k».proof.Proof.RefEnd
public import proofs.«01_k».proof.Proof.Chained

@[expose] public section

set_option maxRecDepth 100000
set_option Elab.async false

namespace Cert.Elastic

open Idealize.ShloMosaic Idealize.ShloMosaic.TcCoe Idealize.ShloMosaic.StableHlo
open Idealize.SL.Sem
open Cert.ReferenceIdeal Cert.ReferenceIdeal.Gen Cert.ReferenceIdeal.Value

/-- The reference's result. -/
noncomputable def wanted (m : (ℓ : Loc nD τ sig) → Buf (Elt Ideal) ℓ) (c : Dev nD) :
    (Proc.devRef .tc main_v406 : DevRef τ sig).ty.Contents (Elt Ideal) :=
  out_main_v406 (STEP^[1536] (entryContents preI m c))

variable (m : (ℓ : Loc nD τ sig) → Buf (Elt Ideal) ℓ) (c : Dev nD)

/-- What the precondition says, of the reference's arguments. -/
def ChainedRef : Prop :=
  Chained (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg8)) (m ((c.tc : Thread nD τ).loc main_arg9))
    (m ((c.tc : Thread nD τ).loc main_arg10)) (m ((c.tc : Thread nD τ).loc main_arg12))

variable {m c}

theorem wanted_free (H : ChainedRef m c) : AllFree (STEP^[1536] (entryContents preI m c)) := fun k =>
  (congrFun (iter_main_arg12 m c 1536) (ix1 k)).trans (H.free k)

/-- The first half of the result is the velocities. -/
theorem wanted_low (H : ChainedRef m c) (b : Fin 64) (d : Fin 1536) :
    (wanted m c : S64x3072.Idx → EReal) (ix2 b ⟨d.val, by omega⟩) =
      (m ((c.tc : Thread nD τ).loc main_arg1) : S64x3072.Idx → EReal) (ix2 b ⟨1536 + d.val, by omega⟩) :=
  (out_low (wanted_free H) b d).trans (congrFun (iter_main_arg1 m c 1536) _)

/-- The second half is the right-hand side over the mass. -/
theorem wanted_high (H : ChainedRef m c) (b : Fin 64) (d : Fin 1536) (e v s i : EReal)
    (he : (m ((c.tc : Thread nD τ).loc main_arg11) : S1536.Idx → EReal) (ix1 d) = e)
    (hv : (m ((c.tc : Thread nD τ).loc main_arg1) : S64x3072.Idx → EReal) (ix2 b ⟨1536 + d.val, by omega⟩) = v)
    (hs : (m ((c.tc : Thread nD τ).loc main_arg10) : S1536x1536.Idx → EReal) (ix2 0 0) = s)
    (hi : (m ((c.tc : Thread nD τ).loc main_arg9) : S1536x1536.Idx → EReal) (ix2 0 0) = i) :
    (wanted m c : S64x3072.Idx → EReal) (ix2 b ⟨1536 + d.val, by omega⟩) =
      Ideal.div (- (v * s) + ((force (netOf (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)))
        (nodes (m ((c.tc : Thread nD τ).loc main_arg1)) b) (d.val / 3) ⟨d.val % 3, by omega⟩ : ℝ) : EReal) + e) i := by
  have hi0 : i ≠ 0 := by
    rw [← hi]
    exact H.heavy
  refine (out_high (wanted_free H) b d).trans ?_
  refine (Solved.at_end hi0 (starts (W := launchContents m c) H.free i (fun p q => ?_)) b d).trans ?_
  · rw [← hi]
    exact H.mass p q
  refine congrArg (fun t => Ideal.div t i) ?_
  refine Chain.at_v385 (opened_chain (W := launchContents m c) H.springs H.real) (fun p q => ?_) s (fun p q => ?_) b d v e ?_ ?_
  · rw [opened_kept main_arg8 (by decide) (by decide)]
    exact H.springs p q
  · rw [opened_kept main_arg10 (by decide) (by decide), ← hs]
    exact H.damping p q
  · rw [← hv]
    exact opened_speeds b d
  · rw [opened_kept main_arg11 (by decide) (by decide)]
    exact he

end Cert.Elastic
-- ==== Proof.Algebraic.lean ====
/- The kernel and the reference compute one function of the arguments. -/
module

public import proofs.«01_k».proof.Proof.KerVal
public import proofs.«01_k».proof.Proof.RefValue

@[expose] public section

set_option maxRecDepth 100000
set_option Elab.async false

namespace Cert.Elastic

open Idealize.ShloMosaic Idealize.ShloMosaic.TcCoe Idealize.SL.Sem

/-- The two orders of the same right-hand side, over the same mass. -/
theorem same_quotient (F e s v i : EReal) (hi : i ≠ 0) :
    Ideal.div (- (v * s) + F + e) i = (F + e - s * v) * Ideal.div 1 i := by
  have h : - (v * s) + F + e = F + e - s * v := by
    rw [sub_eq_add_neg, mul_comm s v, add_comm (F + e), add_assoc]
  unfold Ideal.div
  rw [if_neg hi, if_neg hi, one_mul, h]

/-- An index of a row of the result is in the first half or in the second. -/
theorem halves (P : Fin 3072 → Prop) (h0 : ∀ d : Fin 1536, P ⟨d.val, by omega⟩)
    (h1 : ∀ (n : Fin 512) (k : Fin 3), P ⟨1536 + (n.val * 3 + k.val), by omega⟩) (d : Fin 3072) : P d := by
  by_cases h : d.val < 1536
  · exact h0 ⟨d.val, h⟩
  · have := h1 ⟨(d.val - 1536) / 3, by omega⟩ ⟨(d.val - 1536) % 3, by omega⟩
    have e : (⟨1536 + ((d.val - 1536) / 3 * 3 + (d.val - 1536) % 3), by omega⟩ : Fin 3072) = d :=
      Fin.ext (by simp only []; omega)
    rw [← e]
    exact this

section Meet

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The force on a node, whichever way its number is written. -/
theorem force_at (N : Net) (p : ℕ → Fin 3 → ℝ) (n : Fin 512) (k : Fin 3) (h : (n.val * 3 + k.val) % 3 < 3) :
    force N p ((n.val * 3 + k.val) / 3) ⟨(n.val * 3 + k.val) % 3, h⟩ = force N p n.val k := by
  have e1 : (n.val * 3 + k.val) / 3 = n.val := by omega
  have e2 : (⟨(n.val * 3 + k.val) % 3, h⟩ : Fin 3) = k := Fin.ext (by simp only []; omega)
  rw [e1, e2]

theorem meet (hp : Cert.Pre_KernelIdeal_chain_inputs m)
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (g9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (g10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (g11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (g12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (wanted m' c : Cert.ReferenceIdeal.S64x3072.Idx → EReal) = (answer m c : Cert.KernelIdeal.S64x3072.Idx → EReal) := by
  have K := chained _ _ _ _ _ _ _ _ _ _ _ _ _ (congrFun (hp c) ix0)
  have R : ChainedRef m' c := by
    unfold ChainedRef
    rw [g1, g2, g3, g4, g5, g6, g8, g9, g10, g12]
    exact K
  funext x
  obtain ⟨b, d, rfl⟩ : ∃ (b : Fin 64) (d : Fin 3072), x = ix2 b d := ⟨x 0, x 1, eq_ix2 x⟩
  refine halves (fun d => (wanted m' c : Cert.ReferenceIdeal.S64x3072.Idx → EReal) (ix2 b d) =
    (answer m c : Cert.KernelIdeal.S64x3072.Idx → EReal) (ix2 b d)) (fun d => ?_) (fun n k => ?_) d
  · refine (wanted_low R b d).trans (Eq.trans ?_ (answer_low m c b d).symm)
    rw [g1]
  · refine (wanted_high R b ⟨n.val * 3 + k.val, by omega⟩ _ _ _ _ (congrFun g11 _) (congrFun g1 _) (congrFun g10 _)
      (congrFun g9 _)).trans (Eq.trans ?_ (answer_high m c K.real b n k _ _ _ _ rfl rfl rfl rfl).symm)
    rw [g1, g2, g3, g4, g5, g6, force_at]
    exact same_quotient _ _ _ _ _ K.heavy

end Meet

/-- The kernel's result is the reference's, on arguments that agree and meet the precondition. -/
theorem algebraic : Cert.algebraic_KernelIdeal_ReferenceIdeal_pre_chain_inputs := by
  intro m ρ m' ρ' hp hagree
  refine ⟨fun c => answer m c, ?_, ?_⟩
  · refine (θ_run Cert.KernelIdeal.defs _ _).mono (fun r h c => ⟨?_, h.1 c⟩)
      (θ_run_and (Cert.KernelIdeal.Gen.unchanged m ρ) (Cert.KernelIdeal.Gen.run_main m ρ))
    exact (h.2 c).2 Cert.KernelIdeal.main_v75 (Pipeline.mem_restRefs_of Cert.KernelIdeal.main_v75 (by decide) (by decide))
  · refine (θ_run Cert.ReferenceIdeal.defs _ _).mono (fun _ h c => ⟨(h c).1.trans ?_, (h c).2⟩)
      (Cert.ReferenceIdeal.Value.run (F := Ideal) m' ρ')
    obtain ⟨_, g1, g2, g3, g4, g5, g6, _, g8, g9, g10, g11, g12⟩ := hagree c
    exact meet m m' c hp g1 g2 g3 g4 g5 g6 g8 g9 g10 g11 g12

end Cert.Elastic
-- ==== Proof.lean ====
module

public import proofs.«01_k».proof.Defs
public import proofs.«01_k».proof.Proof.Frames
public import proofs.«01_k».proof.Proof.Algebraic
public import proofs.«01_k».proof.Proof.Gen.Pre_chain_inputs

@[expose] public section

noncomputable section

namespace Cert.Proof

theorem claim : Cert.Claim :=
  ⟨Cert.Kernel.Gen.facts, Cert.KernelIdeal.Gen.facts, Cert.ReferenceIdeal.Gen.facts, Cert.Pre_chain_inputs.Gen.facts,
    Cert.Elastic.frame_p, Cert.Elastic.frame_pi, Cert.Elastic.frame_pi_pre, Cert.Elastic.frame_ri,
    Cert.Elastic.frame_ri_pre, Cert.Elastic.preserves, Cert.Elastic.algebraic⟩

end Cert.Proof

end
